-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_oscillates [hPre_oscillates : Cert.Pre_oscillates.Facts] (m : (ℓ : Loc Cert.KernelIdeal.nD Cert.KernelIdeal.τ Cert.KernelIdeal.sig) → Buf (Elt Ideal) ℓ) : Prop :=
  ∀ c : Dev Cert.KernelIdeal.nD,
    (Cert.Pre_oscillates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_oscillates [hPre_oscillates : Cert.Pre_oscillates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_oscillates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_oscillates [hKernelIdeal : Cert.KernelIdeal.Facts] [hPre_oscillates : Cert.Pre_oscillates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_oscillates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_oscillates [hReferenceIdeal : Cert.ReferenceIdeal.Facts] [hPre_oscillates : Cert.Pre_oscillates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_oscillates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_oscillates [hKernelIdeal : Cert.KernelIdeal.Facts] [hReferenceIdeal : Cert.ReferenceIdeal.Facts] [hPre_oscillates : Cert.Pre_oscillates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_oscillates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_oscillates : Cert.Pre_oscillates.Facts),
    quiescent_Kernel (hKernel := hKernel)
    ∧ quiescent_KernelIdeal (hKernelIdeal := hKernelIdeal)
    ∧ quiescent_KernelIdeal_pre_oscillates (hKernelIdeal := hKernelIdeal) (hPre_oscillates := hPre_oscillates)
    ∧ quiescent_ReferenceIdeal (hReferenceIdeal := hReferenceIdeal)
    ∧ quiescent_ReferenceIdeal_pre_oscillates (hReferenceIdeal := hReferenceIdeal) (hPre_oscillates := hPre_oscillates)
    ∧ preserves_Kernel_KernelIdeal
    ∧ algebraic_KernelIdeal_ReferenceIdeal_pre_oscillates (hKernelIdeal := hKernelIdeal) (hReferenceIdeal := hReferenceIdeal) (hPre_oscillates := hPre_oscillates)
-- ==== Pre_oscillates.lean ====
abbrev S8192x128 : Shape := ⟨2, ![8192, 128]⟩
abbrev S256 : Shape := ⟨1, ![256]⟩
abbrev S256x128 : Shape := ⟨2, ![256, 128]⟩
abbrev S128x256 : Shape := ⟨2, ![128, 256]⟩
abbrev S128 : Shape := ⟨1, ![128]⟩
abbrev S_ : Shape := ⟨0, ![]⟩

class Facts : Prop where
  bcast_S_S256 : S_.BroadcastsInDim S256 (![] : Fin 0 → Fin S256.rank)
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  reducesTo_S256_S_d0 : S256.ReducesTo [0] S_

variable [Facts]

def fn_part1 {F : FTy → Type} [FloatOps F] (main_arg3 : FVec F S256x128 .f32) (main_v9 : FVec F S256 .f32) (main_v13 : IVec S_ 1) (main_v16 : IVec S256x128 1) (main_c_4 : IVec S_ 1) : IVec S_ 1 :=
  let main_v17 : IVec S_ 1 := (fun x v => Host.reduce IntOp.andi x v reducesTo_S256x128_S_d0_1 h_S_) main_v16 main_c_4
  let main_v18 : IVec S_ 1 := andi main_v13 main_v17
  let main_v19 : FVec F S256x128 .f32 := Host.absf main_arg3
  let main_cst_5 : FVec F S_ .f32 := constant S_ .f32 0x7F800000#32
  let main_v20 : FVec F S256x128 .f32 := broadcastInDim S256x128 ![] bcast_S_S256x128 main_cst_5
  let main_v21 : IVec S256x128 1 := cmpf .olt main_v19 main_v20
  let main_c_6 : IVec S_ 1 := constantI S_ 1 1#1
  let main_v22 : IVec S_ 1 := (fun x v => Host.reduce IntOp.andi x v reducesTo_S256x128_S_d0_1 h_S_) main_v21 main_c_6
  let main_v23 : IVec S_ 1 := andi main_v18 main_v22
  let main_cst_7 : FVec F S_ .f32 := constant S_ .f32 0x3E800000#32
  let main_v24 : FVec F S256 .f32 := broadcastInDim S256 ![] bcast_S_S256 main_cst_7
  let main_v25 : FVec F S256 .f32 := mulf main_v24 main_v9
  let main_cst_8 : FVec F S_ .f32 := constant S_ .f32 0x3F800000#32
  let main_v26 : FVec F S256 .f32 := broadcastInDim S256 ![] bcast_S_S256 main_cst_8
  let main_v27 : FVec F S256 .f32 := subf main_v26 main_v25
  let main_v28 : FVec F S256 .f32 := mulf main_v9 main_v27
  let main_cst_9 : FVec F S_ .f32 := constant S_ .f32 0x179ABE15#32
  let main_v29 : FVec F S256 .f32 := broadcastInDim S256 ![] bcast_S_S256 main_cst_9
  let main_v30 : IVec S256 1 := cmpf .oge main_v28 main_v29
  let main_c_10 : IVec S_ 1 := constantI S_ 1 1#1
  let main_v31 : IVec S_ 1 := (fun x v => Host.reduce IntOp.andi x v reducesTo_S256_S_d0 h_S_) main_v30 main_c_10
  let main_v32 : IVec S_ 1 := andi main_v23 main_v31
  main_v32

def fn {F : FTy → Type} [FloatOps F] (main_arg0 : FVec F S8192x128 .f32) (main_arg1 : FVec F S256 .f32) (main_arg2 : FVec F S256x128 .f32) (main_arg3 : FVec F S256x128 .f32) (main_arg4 : FVec F S128x256 .f32) (main_arg5 : FVec F S128x256 .f32) (main_arg6 : FVec F S128 .f32) (main_arg7 : FVec F S256 .f32) : IVec S_ 1 :=
  let main_v0 : FVec F S256 .f32 := Host.negf main_arg7
  let main_v1 : FVec F S256 .f32 := Host.exp main_v0
  let main_cst : FVec F S_ .f32 := constant S_ .f32 0x3F800000#32
  let main_v2 : FVec F S256 .f32 := broadcastInDim S256 ![] bcast_S_S256 main_cst
  let main_v3 : FVec F S256 .f32 := addf main_v2 main_v1
  let main_cst_0 : FVec F S_ .f32 := constant S_ .f32 0x3F800000#32
  let main_v4 : FVec F S256 .f32 := broadcastInDim S256 ![] bcast_S_S256 main_cst_0
  let main_v5 : FVec F S256 .f32 := Host.divf main_v4 main_v3
  let main_v6 : FVec F S256 .f32 := mulf main_v5 main_v5
  let main_cst_1 : FVec F S_ .f32 := constant S_ .f32 0x00000000#32
  let main_v7 : FVec F S256 .f32 := broadcastInDim S256 ![] bcast_S_S256 main_cst_1
  let main_v8 : FVec F S256 .f32 := maximumf main_arg1 main_v7
  let main_v9 : FVec F S256 .f32 := mulf main_v6 main_v8
  let main_v10 : FVec F S8192x128 .f32 := Host.absf main_arg0
  let main_cst_2 : FVec F S_ .f32 := constant S_ .f32 0x7F800000#32
  let main_v11 : FVec F S8192x128 .f32 := broadcastInDim S8192x128 ![] bcast_S_S8192x128 main_cst_2
  let main_v12 : IVec S8192x128 1 := cmpf .olt main_v10 main_v11
  let main_c : IVec S_ 1 := constantI S_ 1 1#1
  let main_v13 : IVec S_ 1 := (fun x v => Host.reduce IntOp.andi x v reducesTo_S8192x128_S_d0_1 h_S_) main_v12 main_c
  let main_v14 : FVec F S256x128 .f32 := Host.absf main_arg2
  let main_cst_3 : FVec F S_ .f32 := constant S_ .f32 0x7F800000#32
  let main_v15 : FVec F S256x128 .f32 := broadcastInDim S256x128 ![] bcast_S_S256x128 main_cst_3
  let main_v16 : IVec S256x128 1 := cmpf .olt main_v14 main_v15
  let main_c_4 : IVec S_ 1 := constantI S_ 1 1#1
  fn_part1 (F := F) main_arg3 main_v9 main_v13 main_v16 main_c_4
-- ==== Kernel.lean ====
abbrev S8192x128 : Shape := ⟨2, ![8192, 128]⟩
abbrev S256 : Shape := ⟨1, ![256]⟩
abbrev S256x128 : Shape := ⟨2, ![256, 128]⟩
abbrev S128x256 : Shape := ⟨2, ![128, 256]⟩
abbrev S128 : Shape := ⟨1, ![128]⟩
abbrev S1x128 : Shape := ⟨2, ![1, 128]⟩
abbrev S1x256 : Shape := ⟨2, ![1, 256]⟩
abbrev S1024x128 : Shape := ⟨2, ![1024, 128]⟩
abbrev S8x256 : Shape := ⟨2, ![8, 256]⟩
abbrev S1024x256 : Shape := ⟨2, ![1024, 256]⟩
abbrev S1024x1 : Shape := ⟨2, ![1024, 1]⟩
abbrev S1023x256 : Shape := ⟨2, ![1023, 256]⟩
abbrev S2x256 : Shape := ⟨2, ![2, 256]⟩
abbrev S1022x256 : Shape := ⟨2, ![1022, 256]⟩
abbrev S4x256 : Shape := ⟨2, ![4, 256]⟩
abbrev S1020x256 : Shape := ⟨2, ![1020, 256]⟩
abbrev S1016x256 : Shape := ⟨2, ![1016, 256]⟩
abbrev S16x256 : Shape := ⟨2, ![16, 256]⟩
abbrev S1008x256 : Shape := ⟨2, ![1008, 256]⟩
abbrev S32x256 : Shape := ⟨2, ![32, 256]⟩
abbrev S992x256 : Shape := ⟨2, ![992, 256]⟩
abbrev S64x256 : Shape := ⟨2, ![64, 256]⟩
abbrev S960x256 : Shape := ⟨2, ![960, 256]⟩
abbrev S896x256 : Shape := ⟨2, ![896, 256]⟩
abbrev S256x256 : Shape := ⟨2, ![256, 256]⟩
abbrev S768x256 : Shape := ⟨2, ![768, 256]⟩
abbrev S512x256 : Shape := ⟨2, ![512, 256]⟩

abbrev nBuf : Space → Nat
  | .hbm => 12
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S256, .f32⟩
  | .hbm, ⟨2, _⟩ => ⟨S256x128, .f32⟩
  | .hbm, ⟨3, _⟩ => ⟨S256x128, .f32⟩
  | .hbm, ⟨4, _⟩ => ⟨S128x256, .f32⟩
  | .hbm, ⟨5, _⟩ => ⟨S128x256, .f32⟩
  | .hbm, ⟨6, _⟩ => ⟨S128, .f32⟩
  | .hbm, ⟨7, _⟩ => ⟨S256, .f32⟩
  | .hbm, ⟨8, _⟩ => ⟨S1x128, .f32⟩
  | .hbm, ⟨9, _⟩ => ⟨S1x256, .f32⟩
  | .hbm, ⟨10, _⟩ => ⟨S1x256, .f32⟩
  | .hbm, ⟨11, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S128x256, .f32⟩
  | .local _ .vmem, ⟨5, _⟩ => ⟨S128x256, .f32⟩
  | .local _ .vmem, ⟨6, _⟩ => ⟨S1x128, .f32⟩
  | .local _ .vmem, ⟨7, _⟩ => ⟨S1x256, .f32⟩
  | .local _ .vmem, ⟨8, _⟩ => ⟨S1x256, .f32⟩
  | .local _ .vmem, ⟨9, _⟩ => ⟨S1024x128, .f32⟩
  | .local _ .vmem, ⟨10, _⟩ => ⟨S1024x128, .f32⟩
  | .local _ .vmem, ⟨11, _⟩ => ⟨S8x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S128x256, .f32⟩
  | .local _ .vmem, ⟨17, _⟩ => ⟨S128x256, .f32⟩
  | .local _ .vmem, ⟨18, _⟩ => ⟨S256x128, .f32⟩
  | .local _ .vmem, ⟨19, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x128 : Shape := ⟨2, ![8192, 128]⟩
abbrev S256 : Shape := ⟨1, ![256]⟩
abbrev S256x128 : Shape := ⟨2, ![256, 128]⟩
abbrev S128x256 : Shape := ⟨2, ![128, 256]⟩
abbrev S128 : Shape := ⟨1, ![128]⟩
abbrev S_ : Shape := ⟨0, ![]⟩
abbrev S8192x256 : Shape := ⟨2, ![8192, 256]⟩
abbrev S1x256 : Shape := ⟨2, ![1, 256]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S256, .f32⟩
  | .hbm, ⟨2, _⟩ => ⟨S256x128, .f32⟩
  | .hbm, ⟨3, _⟩ => ⟨S256x128, .f32⟩
  | .hbm, ⟨4, _⟩ => ⟨S128x256, .f32⟩
  | .hbm, ⟨5, _⟩ => ⟨S128x256, .f32⟩
  | .hbm, ⟨6, _⟩ => ⟨S128, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S128x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S128x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S_, .f32⟩
  | .hbm, ⟨39, _⟩ => ⟨S8192x256, .f32⟩
  | .hbm, ⟨40, _⟩ => ⟨S_, .f32⟩
  | .hbm, ⟨41, _⟩ => ⟨S8192x256, .f32⟩
  | .hbm, ⟨42, _⟩ => ⟨S_, .i32⟩
  | .hbm, ⟨43, _⟩ => ⟨S8192x256, .f32⟩
  | .hbm, ⟨44, _⟩ => ⟨S8192x256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S_, .i32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S8192x256, .f32⟩
  | .hbm, ⟨54, _⟩ => ⟨S8192x256, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S1x256, .f32⟩
  | .hbm, ⟨59, _⟩ => ⟨S256, .f32⟩
  | .hbm, ⟨60, _⟩ => ⟨S_, .i32⟩
  | .hbm, ⟨61, _⟩ => ⟨S1x256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S_, .i32⟩
  | .hbm, ⟨79, _⟩ => ⟨S8192x256, .f32⟩
  | .hbm, ⟨80, _⟩ => ⟨S1x256, .f32⟩
  | .hbm, ⟨81, _⟩ => ⟨S_, .i32⟩
  | .hbm, ⟨82, _⟩ => ⟨S8192x256, .f32⟩
  | .hbm, ⟨83, _⟩ => ⟨S_, .i32⟩
  | .hbm, ⟨84, _⟩ => ⟨S_, .i32⟩
  | .hbm, ⟨85, _⟩ => ⟨S256x128, .f32⟩
  | .hbm, ⟨86, _⟩ => ⟨S8192x128, .f32⟩
  | .hbm, ⟨87, _⟩ => ⟨S256x128, .f32⟩
  | .hbm, ⟨88, _⟩ => ⟨S8192x128, .f32⟩
  | .hbm, ⟨89, _⟩ => ⟨S8192x128, .f32⟩
  | .hbm, ⟨90, _⟩ => ⟨S1x128, .f32⟩
  | .hbm, ⟨91, _⟩ => ⟨S8192x128, .f32⟩
  | .hbm, ⟨92, _⟩ => ⟨S8192x128, .f32⟩
  | .hbm, ⟨93, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_c : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v26_3 : Ref sig .tc := ⟨.hbm, 46, rfl⟩
abbrev main_v26_4 : Ref sig .tc := ⟨.hbm, 47, rfl⟩
abbrev main_v26_5 : Ref sig .tc := ⟨.hbm, 48, rfl⟩
abbrev main_v26_6 : Ref sig .tc := ⟨.hbm, 49, rfl⟩
abbrev main_v26_7 : Ref sig .tc := ⟨.hbm, 50, rfl⟩
abbrev main_v26_8 : Ref sig .tc := ⟨.hbm, 51, rfl⟩
abbrev main_v26_9 : Ref sig .tc := ⟨.hbm, 52, rfl⟩
abbrev main_v26_10 : Ref sig .tc := ⟨.hbm, 53, rfl⟩
abbrev main_v26_11 : Ref sig .tc := ⟨.hbm, 54, rfl⟩
abbrev main_while0c_c_16 : Ref sig .tc := ⟨.hbm, 55, rfl⟩
abbrev main_while0c_v36 : Ref sig .tc := ⟨.hbm, 56, rfl⟩
abbrev main_while0b_call1_c : Ref sig .tc := ⟨.hbm, 57, rfl⟩
abbrev main_while0b_call1_v0 : Ref sig .tc := ⟨.hbm, 58, rfl⟩
abbrev main_while0b_v36 : Ref sig .tc := ⟨.hbm, 59, rfl⟩
abbrev main_while0b_call2_c : Ref sig .tc := ⟨.hbm, 60, rfl⟩
abbrev main_while0b_call2_v0 : Ref sig .tc := ⟨.hbm, 61, rfl⟩
abbrev main_while0b_v37 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_call3_v0 : Ref sig .tc := ⟨.hbm, 77, rfl⟩
abbrev main_while0b_call3_c : Ref sig .tc := ⟨.hbm, 78, rfl⟩
abbrev main_while0b_v52 : Ref sig .tc := ⟨.hbm, 79, rfl⟩
abbrev main_while0b_call4_v0 : Ref sig .tc := ⟨.hbm, 80, rfl⟩
abbrev main_while0b_call4_c : Ref sig .tc := ⟨.hbm, 81, rfl⟩
abbrev main_while0b_v53 : Ref sig .tc := ⟨.hbm, 82, rfl⟩
abbrev main_while0b_c_16 : Ref sig .tc := ⟨.hbm, 83, rfl⟩
abbrev main_while0b_v54 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩

abbrev nD : Nat := 1
abbrev τ : Topo := Topo.v7x

variable {F : FTy → Type} [FloatOps F]

abbrev main_while0_count : Scf.Loop 32 := ⟨0#32, 8192#32, 1#32⟩
-- ==== Proof.Recur.lean ====
module
public import Mathlib.Data.Complex.Basic
public import Mathlib.Algebra.BigOperators.Intervals
public import Mathlib.Tactic.Ring
public import Mathlib.Tactic.FieldSimp
public import Mathlib.Tactic.LinearCombination

/-! The mathematics of one lane, over the real numbers: powers of the unit number `c + i σ`, running sums by
doubling, and the oscillator's recurrence solved by them. -/

@[expose] public section
noncomputable section
open Finset
namespace Oscillator

/-- The real part of the `n`-th power of `c + i σ`. -/
def pre (c σ : ℝ) (n : ℕ) : ℝ := ((⟨c, σ⟩ : ℂ) ^ n).re

/-- The imaginary part of the `n`-th power of `c + i σ`. -/
def pim (c σ : ℝ) (n : ℕ) : ℝ := ((⟨c, σ⟩ : ℂ) ^ n).im

/-- The zeroth power has real part one. -/
theorem pre_zero (c σ : ℝ) : pre c σ 0 = 1 := by simp [pre]

/-- The zeroth power has imaginary part zero. -/
theorem pim_zero (c σ : ℝ) : pim c σ 0 = 0 := by simp [pim]

/-- The first power has real part `c`. -/
theorem pre_one (c σ : ℝ) : pre c σ 1 = c := by simp [pre]

/-- The first power has imaginary part `σ`. -/
theorem pim_one (c σ : ℝ) : pim c σ 1 = σ := by simp [pim]

/-- The real part of a product of two powers. -/
theorem pre_add (c σ : ℝ) (m n : ℕ) : pre c σ (m + n) = pre c σ m * pre c σ n - pim c σ m * pim c σ n := by
  simp [pre, pim, pow_add, Complex.mul_re]

/-- The imaginary part of a product of two powers. -/
theorem pim_add (c σ : ℝ) (m n : ℕ) : pim c σ (m + n) = pim c σ m * pre c σ n + pre c σ m * pim c σ n := by
  simp [pre, pim, pow_add, Complex.mul_im]; ring

/-- One more factor, real part. -/
theorem pre_succ (c σ : ℝ) (n : ℕ) : pre c σ (n + 1) = pre c σ n * c - pim c σ n * σ := by
  rw [pre_add, pre_one, pim_one]

/-- One more factor, imaginary part. -/
theorem pim_succ (c σ : ℝ) (n : ℕ) : pim c σ (n + 1) = pim c σ n * c + pre c σ n * σ := by
  rw [pim_add, pre_one, pim_one]

/-- Every power of a number on the unit circle is on the unit circle. -/
theorem unit_pow {c σ : ℝ} (h1 : c * c + σ * σ = 1) (n : ℕ) : pre c σ n * pre c σ n + pim c σ n * pim c σ n = 1 := by
  induction n with
  | zero => simp [pre_zero, pim_zero]
  | succ n ih => rw [pre_succ, pim_succ]; linear_combination (pre c σ n * pre c σ n + pim c σ n * pim c σ n) * h1 + ih

/-- The sum of the last `d` terms of `w` up to and including the `n`-th, the terms before the zeroth being absent. -/
def win (d : ℕ) (w : ℕ → ℝ) (n : ℕ) : ℝ := ∑ k ∈ range d, if k ≤ n then w (n - k) else 0

/-- A window of one term is the term. -/
theorem win_one (w : ℕ → ℝ) (n : ℕ) : win 1 w n = w n := by simp [win]

/-- A window of twice the length is the window plus the window that ends `d` terms earlier. -/
theorem win_double (d : ℕ) (w : ℕ → ℝ) (n : ℕ) :
    win (d + d) w n = win d w n + if d ≤ n then win d w (n - d) else 0 := by
  unfold win
  rw [sum_range_add]
  congr 1
  split
  · rename_i h
    refine sum_congr rfl fun k _ => ?_
    have e : d + k ≤ n ↔ k ≤ n - d := by omega
    simp only [e, Nat.sub_sub]
  · rename_i h
    refine sum_eq_zero fun k _ => ?_
    rw [if_neg]; omega

/-- A window that is long enough holds every term up to the `n`-th. -/
theorem win_full {d n : ℕ} (w : ℕ → ℝ) (h : n < d) : win d w n = ∑ j ∈ range (n + 1), w j := by
  unfold win
  obtain ⟨e, rfl⟩ : ∃ e, d = (n + 1) + e := ⟨d - (n + 1), by omega⟩
  rw [sum_range_add, ← sum_range_reflect]
  have z : ∑ k ∈ range e, (if n + 1 + k ≤ n then w (n - (n + 1 + k)) else 0) = 0 :=
    sum_eq_zero fun k _ => if_neg (by omega)
  rw [z, add_zero]
  refine sum_congr rfl fun k hk => ?_
  have hk' := mem_range.1 hk
  rw [if_pos (by omega)]
  congr 1; omega

/-- The solution of `Y (n+2) = 2 c Y (n+1) - Y n + g n` by sums against the powers of `c + i σ`. -/
theorem solve {c σ : ℝ} (h1 : c * c + σ * σ = 1) {Y g : ℕ → ℝ}
    (hY : ∀ n, Y (n + 2) = 2 * c * Y (n + 1) - Y n + g n) (n : ℕ) :
    σ * Y (n + 1) = pim c σ n * ((Y 1 * c - Y 0) + ∑ j ∈ range n, pre c σ j * g j)
      - pre c σ n * (∑ j ∈ range n, pim c σ j * g j - Y 1 * σ) := by
  suffices h : ∀ n, (σ * Y (n + 1) = pim c σ n * ((Y 1 * c - Y 0) + ∑ j ∈ range n, pre c σ j * g j)
      - pre c σ n * (∑ j ∈ range n, pim c σ j * g j - Y 1 * σ)) ∧
      (σ * Y (n + 2) = pim c σ (n + 1) * ((Y 1 * c - Y 0) + ∑ j ∈ range (n + 1), pre c σ j * g j)
      - pre c σ (n + 1) * (∑ j ∈ range (n + 1), pim c σ j * g j - Y 1 * σ)) from (h n).1
  intro n
  induction n with
  | zero =>
    refine ⟨by simp [pre_zero, pim_zero]; ring, ?_⟩
    simp only [zero_add, range_one, sum_singleton, pre_zero, pim_zero, pre_one, pim_one, hY 0]
    ring
  | succ n ih =>
    refine ⟨ih.2, ?_⟩
    obtain ⟨ha, hb⟩ := ih
    have hu := unit_pow h1 n
    rw [hY (n + 1)]
    rw [sum_range_succ _ (n + 1), sum_range_succ _ (n + 1)]
    rw [sum_range_succ _ n, sum_range_succ _ n] at hb ⊢
    rw [pim_succ, pre_succ] at hb
    rw [pim_succ c σ (n + 1), pre_succ c σ (n + 1), pim_succ c σ n, pre_succ c σ n]
    generalize pim c σ n = H at *
    generalize pre c σ n = P at *
    generalize (∑ j ∈ range n, pre c σ j * g j) = A at *
    generalize (∑ j ∈ range n, pim c σ j * g j) = B at *
    linear_combination 2 * c * hb - ha - σ * g (n + 1) * hu
      + (H * (Y 1 * c - Y 0 + (A + P * g n + (P * c - H * σ) * g (n + 1)))
        - P * (B + H * g n + (H * c + P * σ) * g (n + 1) - Y 1 * σ)) * h1

/-- The two state components of one oscillator after `n` inputs: `X₁ + M₁₂ X₂ + F`, `s X₁ + M₂₂ X₂ + F`, from zero. -/
def state (s m12 m22 : ℝ) (F : ℕ → ℝ) : ℕ → ℝ × ℝ
  | 0 => (0, 0)
  | n + 1 => ((state s m12 m22 F n).1 + m12 * (state s m12 m22 F n).2 + F n,
      s * (state s m12 m22 F n).1 + m22 * (state s m12 m22 F n).2 + F n)

/-- The second state component, one index later: `Y (n + 1)` is its value after `n` inputs, and `Y 0` is zero. -/
def resp (s m12 m22 : ℝ) (F : ℕ → ℝ) : ℕ → ℝ
  | 0 => 0
  | n + 1 => (state s m12 m22 F n).2

/-- The input one index earlier, zero before the first. -/
def late (F : ℕ → ℝ) : ℕ → ℝ
  | 0 => 0
  | n + 1 => F n

/-- The second component alone obeys a recurrence of second order, driven by the input and the input before it. -/
theorem resp_step {s m12 m22 c : ℝ} (ht : 1 + m22 = 2 * c) (hd : m22 - s * m12 = 1) (F : ℕ → ℝ) (n : ℕ) :
    resp s m12 m22 F (n + 2) = 2 * c * resp s m12 m22 F (n + 1) - resp s m12 m22 F n + (F n + (s - 1) * late F n) := by
  cases n with
  | zero => simp [resp, state, late]
  | succ n =>
    simp only [resp, late]
    rw [state, state]
    simp only
    linear_combination (s * (state s m12 m22 F n).1 + m22 * (state s m12 m22 F n).2 + F n) * ht - (state s m12 m22 F n).2 * hd

end Oscillator
-- ==== Proof.Rows.lean ====
module
public import proofs.«01_k».proof.Proof.Gen.KernelIdeal.Value
public import proofs.«01_k».proof.Proof.Recur
public import Idealize.ShloMosaic.Lib.Pointwise
public import Idealize.ShloMosaic.Lib.Pointwise.IndexVar

/-! Tiles of 1024 rows and 256 lanes whose elements are real numbers, and what the vector operations do to them. -/

@[expose] public section
noncomputable section
open Idealize.ShloMosaic Idealize.ShloMosaic.TcCoe Idealize.SL.Sem
namespace Cert.KernelIdeal.Scan
open Cert.KernelIdeal Cert.KernelIdeal.Gen Oscillator

/-- A tile of 1024 rows and 256 lanes of extended reals. -/
abbrev Tile : Type := FVec Ideal S1024x256 .f32

/-- One row of 256 lanes of extended reals. -/
abbrev Lane : Type := FVec Ideal S1x256 .f32

/-- The first `N` rows of the tile `x` hold the reals `w`: lane `p` of row `n` is `w p n`. -/
def Holds (N : ℕ) (x : Tile) (w : Fin 256 → ℕ → ℝ) : Prop :=
  ∀ (n : Fin 1024) (p : Fin 256), n.val < N → x (ix2 n p) = ((w p n.val : ℝ) : EReal)

/-- The row `r` holds the reals `v`. -/
def RowIs (r : Lane) (v : Fin 256 → ℝ) : Prop :=
  ∀ p : Fin 256, r (ix2 (0 : Fin 1) p) = ((v p : ℝ) : EReal)

/-- One row repeated down a tile. -/
def spread (r : Lane) : Tile := broadcastTo S1024x256 r broadcasts_S1x256_S1024x256

/-- A tile moved down by `d` rows; the rows freed at the top come from `top`. -/
def under (d e : ℕ) (hs : S1024x256.Slices ![0, 0] ⟨2, ![e, 256]⟩)
    (hc : Shape.Concatenates [⟨2, ![d, 256]⟩, ⟨2, ![e, 256]⟩] S1024x256 0)
    (top : FVec Ideal ⟨2, ![d, 256]⟩ .f32) (x : Tile) : Tile :=
  concatenate S1024x256 0 [⟨⟨2, ![d, 256]⟩, top⟩, ⟨⟨2, ![e, 256]⟩, extractStridedSlice ⟨2, ![e, 256]⟩ ![0, 0] x hs⟩] hc

/-- The block of `d` zero rows. -/
def zeroRows (d : ℕ) : FVec Ideal ⟨2, ![d, 256]⟩ .f32 := broadcast ⟨2, ![d, 256]⟩ (Scalar.ofBits .f32 0x00000000#32)

/-- The rows from `d` on, as a mask. -/
def fromRow (d : ℕ) : IVec S1024x256 1 :=
  broadcastTo S1024x256
    (shapeCast S1024x1 (cmpi .sge (iota .tc S1024x1 32 [0] iota_S1024x1_d0_w32) (broadcast S1024x1 (BitVec.ofNat 32 d)))
      shapeCasts_S1024x1_S1024x1)
    broadcasts_S1024x1_S1024x256

/-- A repeated row at an element. -/
theorem spread_apply (r : Lane) (n : Fin 1024) (p : Fin 256) : spread r (ix2 n p) = r (ix2 (0 : Fin 1) p) := by
  pointwise [spread]

/-- A tile moved down, at an element of the rows freed at the top. -/
theorem under_top {d e : ℕ} {hs : S1024x256.Slices ![0, 0] ⟨2, ![e, 256]⟩}
    {hc : Shape.Concatenates [⟨2, ![d, 256]⟩, ⟨2, ![e, 256]⟩] S1024x256 0}
    (top : FVec Ideal ⟨2, ![d, 256]⟩ .f32) (x : Tile) (n : Fin 1024) (p : Fin 256) (h : n.val < d) :
    under d e hs hc top x (ix2 n p) = top (ix2 ⟨n.val, h⟩ p) := by
  unfold under
  rw [concatenate_pair_apply]
  refine (dif_pos h).trans ?_
  rw [Shape.Idx.norm2]
  rfl

/-- A tile moved down, at an element of the rows that come from it. -/
theorem under_rest {d e : ℕ} {hs : S1024x256.Slices ![0, 0] ⟨2, ![e, 256]⟩}
    {hc : Shape.Concatenates [⟨2, ![d, 256]⟩, ⟨2, ![e, 256]⟩] S1024x256 0}
    (top : FVec Ideal ⟨2, ![d, 256]⟩ .f32) (x : Tile) (n : Fin 1024) (p : Fin 256) (h : ¬ n.val < d) :
    under d e hs hc top x (ix2 n p) = x (ix2 ⟨n.val - d, by omega⟩ p) := by
  unfold under
  rw [concatenate_pair_apply]
  refine (dif_neg h).trans ?_
  rw [Shape.Idx.norm2, Pointwise.extractStridedSlice_apply, Shape.Idx.norm2]
  exact congrArg x (congrArg₂ ix2 (Fin.ext (Nat.zero_add _)) (Fin.ext (Nat.zero_add _)))

/-- The mask at an element. -/
theorem fromRow_apply {d : ℕ} (hd : d < 1024) (n : Fin 1024) (p : Fin 256) :
    fromRow d (ix2 n p) = BitVec.ofBool (decide (d ≤ n.val)) := by
  pointwise [fromRow]
  have hn := n.isLt
  have e1 : (BitVec.ofNat 32 n.val).toInt = n.val := by rw [BitVec.toInt_ofNat', Int.bmod_def]; omega
  have e2 : (BitVec.ofNat 32 d).toInt = d := by rw [BitVec.toInt_ofNat', Int.bmod_def]; omega
  simp only [IntOp.cmpi, BitVec.sle, e1, e2, Int.ofNat_le]

section Holds
variable {N : ℕ} {x y : Tile} {w z : Fin 256 → ℕ → ℝ} {r q : Lane} {v u : Fin 256 → ℝ}

/-- Fewer rows are held too. -/
theorem Holds.less {M : ℕ} (h : Holds N x w) (hM : M ≤ N) : Holds M x w := fun n p hn => h n p (hn.trans_le hM)

/-- What a tile holds may be written differently. -/
theorem Holds.cong (h : Holds N x w) (e : ∀ p n, n < N → w p n = z p n) : Holds N x z := fun n p hn => by
  rw [h n p hn, e p n hn]

/-- The sum of two tiles. -/
theorem Holds.add (h : Holds N x w) (k : Holds N y z) : Holds N (addf x y) fun p n => w p n + z p n := fun n p hn => by
  pointwise []; rw [h n p hn, k n p hn, ← EReal.coe_add]

/-- The difference of two tiles. -/
theorem Holds.sub (h : Holds N x w) (k : Holds N y z) : Holds N (subf x y) fun p n => w p n - z p n := fun n p hn => by
  pointwise []; rw [h n p hn, k n p hn, ← EReal.coe_sub]

/-- The product of two tiles. -/
theorem Holds.mul (h : Holds N x w) (k : Holds N y z) : Holds N (mulf x y) fun p n => w p n * z p n := fun n p hn => by
  pointwise []; rw [h n p hn, k n p hn, ← EReal.coe_mul]

/-- A row repeated down a tile. -/
theorem RowIs.spread (h : RowIs r v) : Holds N (Scan.spread r) fun p _ => v p := fun n p _ => by
  rw [spread_apply, h p]

/-- A tile moved down under zero rows: `d` more rows are held. -/
theorem Holds.under {d e : ℕ} {hs : S1024x256.Slices ![0, 0] ⟨2, ![e, 256]⟩}
    {hc : Shape.Concatenates [⟨2, ![d, 256]⟩, ⟨2, ![e, 256]⟩] S1024x256 0} (h : Holds N x w) :
    Holds (N + d) (Scan.under d e hs hc (zeroRows d) x) fun p n => if d ≤ n then w p (n - d) else 0 := fun n p hn => by
  dsimp only
  by_cases hd : n.val < d
  · rw [under_top _ _ _ _ hd, if_neg (by omega)]
    exact Ideal.ofBits_zero_f32.trans EReal.coe_zero.symm
  · rw [under_rest _ _ _ _ hd, if_pos (by omega)]
    exact h _ p (by simp only; omega)

/-- The sum of two rows. -/
theorem RowIs.add (h : RowIs r v) (k : RowIs q u) : RowIs (addf r q) fun p => v p + u p := fun p => by
  pointwise []; rw [h p, k p, ← EReal.coe_add]

/-- The difference of two rows. -/
theorem RowIs.sub (h : RowIs r v) (k : RowIs q u) : RowIs (subf r q) fun p => v p - u p := fun p => by
  pointwise []; rw [h p, k p, ← EReal.coe_sub]

/-- The product of two rows. -/
theorem RowIs.mul (h : RowIs r v) (k : RowIs q u) : RowIs (mulf r q) fun p => v p * u p := fun p => by
  pointwise []; rw [h p, k p, ← EReal.coe_mul]

/-- What a row holds may be written differently. -/
theorem RowIs.cong (h : RowIs r v) (e : ∀ p, v p = u p) : RowIs r u := fun p => by rw [h p, e p]

/-- The quotient of two rows, where no divisor is zero. -/
theorem RowIs.div (h : RowIs r v) (k : RowIs q u) (hu : ∀ p, u p ≠ 0) : RowIs (divf r q) fun p => v p / u p := fun p => by
  pointwise []; rw [h p, k p, Ideal.div_coe (hu p), ← EReal.coe_mul, mul_one_div]

/-- A row repeated down a tile holds the row's reals at every row. -/
theorem Holds.mulSpread (h : Holds N x w) (k : RowIs r v) : Holds N (mulf x (Scan.spread r)) fun p n => w p n * v p :=
  h.mul k.spread

end Holds

/-! ### Running sums by doubling -/

/-- A tile plus itself moved down by `d` rows. -/
def dbl (d e : ℕ) (hs : S1024x256.Slices ![0, 0] ⟨2, ![e, 256]⟩)
    (hc : Shape.Concatenates [⟨2, ![d, 256]⟩, ⟨2, ![e, 256]⟩] S1024x256 0) (x : Tile) : Tile :=
  addf x (under d e hs hc (zeroRows d) x)

/-- Windows of `d` rows become windows of `2 d` rows. -/
theorem Holds.dbl {d e : ℕ} {hs : S1024x256.Slices ![0, 0] ⟨2, ![e, 256]⟩}
    {hc : Shape.Concatenates [⟨2, ![d, 256]⟩, ⟨2, ![e, 256]⟩] S1024x256 0} {x : Tile} {w : Fin 256 → ℕ → ℝ}
    (h : Holds 1024 x fun p => win d (w p)) : Holds 1024 (Scan.dbl d e hs hc x) fun p => win (d + d) (w p) :=
  (h.add (h.under.less (Nat.le_add_right _ _))).cong fun p n _ => (win_double d (w p) n).symm

/-- Ten doublings: every row becomes the sum of the rows up to it. -/
def runSum (x : Tile) : Tile :=
  dbl 512 512 slices_S1024x256_o0_0_S512x256 concatenates_S512x256_S512x256_S1024x256_d0 <|
  dbl 256 768 slices_S1024x256_o0_0_S768x256 concatenates_S256x256_S768x256_S1024x256_d0 <|
  dbl 128 896 slices_S1024x256_o0_0_S896x256 concatenates_S128x256_S896x256_S1024x256_d0 <|
  dbl 64 960 slices_S1024x256_o0_0_S960x256 concatenates_S64x256_S960x256_S1024x256_d0 <|
  dbl 32 992 slices_S1024x256_o0_0_S992x256 concatenates_S32x256_S992x256_S1024x256_d0 <|
  dbl 16 1008 slices_S1024x256_o0_0_S1008x256 concatenates_S16x256_S1008x256_S1024x256_d0 <|
  dbl 8 1016 slices_S1024x256_o0_0_S1016x256 concatenates_S8x256_S1016x256_S1024x256_d0 <|
  dbl 4 1020 slices_S1024x256_o0_0_S1020x256 concatenates_S4x256_S1020x256_S1024x256_d0 <|
  dbl 2 1022 slices_S1024x256_o0_0_S1022x256 concatenates_S2x256_S1022x256_S1024x256_d0 <|
  dbl 1 1023 slices_S1024x256_o0_0_S1023x256 concatenates_S1x256_S1023x256_S1024x256_d0 x

/-- The running sum of a tile of reals. -/
theorem Holds.runSum {x : Tile} {w : Fin 256 → ℕ → ℝ} (h : Holds 1024 x w) :
    Holds 1024 (Scan.runSum x) fun p n => ∑ j ∈ Finset.range (n + 1), w p j := by
  have h1 : Holds 1024 x fun p => win 1 (w p) := h.cong fun p n _ => (win_one (w p) n).symm
  exact Holds.cong (Holds.dbl (Holds.dbl (Holds.dbl (Holds.dbl (Holds.dbl (Holds.dbl (Holds.dbl (Holds.dbl (Holds.dbl
    (Holds.dbl h1)))))))))) fun p n hn => win_full (w p) hn

/-! ### The tables of powers by doubling -/

/-- The two tables, and the real and imaginary part of the power that the next step multiplies by. -/
structure Tab where
  /-- real parts, row by row -/
  C : Tile
  /-- imaginary parts, row by row -/
  S : Tile
  /-- the multiplier's real part -/
  c : Lane
  /-- the multiplier's imaginary part -/
  s : Lane

/-- One step: the rows from `d` on become the rows `d` above them times the multiplier, which is then squared. -/
def Tab.step (d e : ℕ) (hs : S1024x256.Slices ![0, 0] ⟨2, ![e, 256]⟩)
    (hc : Shape.Concatenates [⟨2, ![d, 256]⟩, ⟨2, ![e, 256]⟩] S1024x256 0) (t : Tab) : Tab where
  C := select (fromRow d) (subf (mulf (under d e hs hc (zeroRows d) t.C) (spread t.c))
    (mulf (under d e hs hc (zeroRows d) t.S) (spread t.s))) t.C
  S := select (fromRow d) (addf (mulf (under d e hs hc (zeroRows d) t.S) (spread t.c))
    (mulf (under d e hs hc (zeroRows d) t.C) (spread t.s))) t.S
  c := subf (mulf t.c t.c) (mulf t.s t.s)
  s := mulf (mulf (broadcast S1x256 (Scalar.ofBits .f32 0x40000000#32)) t.s) t.c

/-- The first `d` rows are right, and the multiplier is the `d`-th power. -/
structure Tab.Right (c σ : Fin 256 → ℝ) (d : ℕ) (t : Tab) : Prop where
  /-- the real parts -/
  re : Holds d t.C fun p => pre (c p) (σ p)
  /-- the imaginary parts -/
  im : Holds d t.S fun p => pim (c p) (σ p)
  /-- the multiplier's real part -/
  mre : RowIs t.c fun p => pre (c p) (σ p) d
  /-- the multiplier's imaginary part -/
  mim : RowIs t.s fun p => pim (c p) (σ p) d

/-- A selected tile: below row `d` the second, from row `d` on the first. -/
theorem Holds.pick {N d : ℕ} {x y : Tile} {w : Fin 256 → ℕ → ℝ} (hd : d < 1024) (hx : ∀ (n : Fin 1024) (p : Fin 256),
    d ≤ n.val → n.val < N → x (ix2 n p) = ((w p n.val : ℝ) : EReal)) (hy : Holds d y w) :
    Holds N (select (fromRow d) x y) w := fun n p hn => by
  rw [ValueIdx.select_apply, fromRow_apply hd]
  by_cases h : d ≤ n.val
  · rw [decide_eq_true h]; exact hx n p h hn
  · rw [decide_eq_false h]; exact hy n p (by omega)

/-- The row of twos. -/
theorem two_row : RowIs (broadcast S1x256 (Scalar.ofBits .f32 0x40000000#32)) fun _ => 2 := fun p => by
  change Ideal.ofBits .f32 0x40000000#32 = _
  simp [Ideal.ofBits, Ideal.ieee, -EReal.coe_mul]; norm_num

/-- A step doubles the number of right rows. -/
theorem Tab.Right.step {c σ : Fin 256 → ℝ} {d e : ℕ} {hs : S1024x256.Slices ![0, 0] ⟨2, ![e, 256]⟩}
    {hc : Shape.Concatenates [⟨2, ![d, 256]⟩, ⟨2, ![e, 256]⟩] S1024x256 0} {t : Tab} (hd : d < 1024) (h : t.Right c σ d) :
    (t.step d e hs hc).Right c σ (d + d) where
  re := Holds.pick hd (fun n p h1 h2 => by
    have k := ((h.re.under (hs := hs) (hc := hc)).mulSpread h.mre).sub ((h.im.under (hs := hs) (hc := hc)).mulSpread h.mim) n p h2
    rw [k]; simp only [if_pos h1]; rw [← pre_add, Nat.sub_add_cancel h1]) h.re
  im := Holds.pick hd (fun n p h1 h2 => by
    have k := ((h.im.under (hs := hs) (hc := hc)).mulSpread h.mre).add ((h.re.under (hs := hs) (hc := hc)).mulSpread h.mim) n p h2
    rw [k]; simp only [if_pos h1]; rw [← pim_add, Nat.sub_add_cancel h1]) h.im
  mre := ((h.mre.mul h.mre).sub (h.mim.mul h.mim)).cong fun p => (pre_add _ _ _ _).symm
  mim := ((two_row.mul h.mim).mul h.mre).cong fun p => by rw [pim_add]; ring

/-- The start: a table of ones, a table of zeros, and the number itself. -/
def Tab.start (c s : Lane) : Tab :=
  ⟨broadcast S1024x256 (Scalar.ofBits .f32 0x3F800000#32), broadcast S1024x256 (Scalar.ofBits .f32 0x00000000#32), c, s⟩

/-- At the start the zeroth row is right. -/
theorem Tab.Right.start {c σ : Fin 256 → ℝ} {r q : Lane} (hr : RowIs r c) (hq : RowIs q σ) :
    (Tab.start r q).Right c σ 1 where
  re := fun n p hn => by
    simp only [Nat.lt_one_iff.1 hn, pre_zero]; exact Ideal.ofBits_one_f32
  im := fun n p hn => by
    simp only [Nat.lt_one_iff.1 hn, pim_zero]; exact Ideal.ofBits_zero_f32
  mre := hr.cong fun p => (pre_one _ _).symm
  mim := hq.cong fun p => (pim_one _ _).symm

/-- The steps of 1 and 2 rows. -/
def Tab.two1 (t : Tab) : Tab :=
  Tab.step 2 1022 slices_S1024x256_o0_0_S1022x256 concatenates_S2x256_S1022x256_S1024x256_d0 <|
  Tab.step 1 1023 slices_S1024x256_o0_0_S1023x256 concatenates_S1x256_S1023x256_S1024x256_d0 t

/-- The steps of 4 and 8 rows. -/
def Tab.two4 (t : Tab) : Tab :=
  Tab.step 8 1016 slices_S1024x256_o0_0_S1016x256 concatenates_S8x256_S1016x256_S1024x256_d0 <|
  Tab.step 4 1020 slices_S1024x256_o0_0_S1020x256 concatenates_S4x256_S1020x256_S1024x256_d0 t

/-- The steps of 16 and 32 rows. -/
def Tab.two16 (t : Tab) : Tab :=
  Tab.step 32 992 slices_S1024x256_o0_0_S992x256 concatenates_S32x256_S992x256_S1024x256_d0 <|
  Tab.step 16 1008 slices_S1024x256_o0_0_S1008x256 concatenates_S16x256_S1008x256_S1024x256_d0 t

/-- The steps of 64 and 128 rows. -/
def Tab.two64 (t : Tab) : Tab :=
  Tab.step 128 896 slices_S1024x256_o0_0_S896x256 concatenates_S128x256_S896x256_S1024x256_d0 <|
  Tab.step 64 960 slices_S1024x256_o0_0_S960x256 concatenates_S64x256_S960x256_S1024x256_d0 t

/-- The steps of 256 and 512 rows. -/
def Tab.two256 (t : Tab) : Tab :=
  Tab.step 512 512 slices_S1024x256_o0_0_S512x256 concatenates_S512x256_S512x256_S1024x256_d0 <|
  Tab.step 256 768 slices_S1024x256_o0_0_S768x256 concatenates_S256x256_S768x256_S1024x256_d0 t

/-- The tables after ten steps. -/
def powers (c s : Lane) : Tab := (Tab.start c s).two1.two4.two16.two64.two256

/-- The tables of the first 1024 powers. -/
theorem powers_right {c σ : Fin 256 → ℝ} {r q : Lane} (hr : RowIs r c) (hq : RowIs q σ) :
    (powers r q).Right c σ 1024 :=
  Tab.Right.step (by decide) <| Tab.Right.step (by decide) <| Tab.Right.step (by decide) <| Tab.Right.step (by decide) <|
  Tab.Right.step (by decide) <| Tab.Right.step (by decide) <| Tab.Right.step (by decide) <| Tab.Right.step (by decide) <|
  Tab.Right.step (by decide) <| Tab.Right.step (by decide) <| Tab.Right.start hr hq

end Cert.KernelIdeal.Scan
-- ==== Proof.Tables.lean ====
module
public import proofs.«01_k».proof.Proof.Rows

/-! The named values of the kernel's body, as the tables of powers and the running sums of Rows.lean. -/

@[expose] public section
noncomputable section
open Idealize.ShloMosaic Idealize.ShloMosaic.TcCoe Idealize.SL.Sem
namespace Cert.KernelIdeal.Scan
open Cert.KernelIdeal Cert.KernelIdeal.Gen

/-- The row numbers. -/
abbrev rowNo : IVec S1024x1 32 := iota Kind.tc S1024x1 32 [0] iota_S1024x1_d0_w32

/-- The row of twos. -/
abbrev twos : Lane := broadcast S1x256 (Scalar.ofBits .f32 0x40000000#32)

/-- The body's values after the steps of 1 and 2 rows. -/
theorem two1_eq (c s : Lane) : (Tab.start c s).two1 =
    ⟨k0_pay22 c s rowNo k0_pay7 k0_pay8 k0_pay9 k0_pay10, k0_pay23 c s rowNo k0_pay7 k0_pay8 k0_pay9 k0_pay10, k0_pay24 c s,
      mulf (k0_pay25 c s) (k0_pay16 c s)⟩ := rfl

/-- The body's values after the steps of 4 and 8 rows. -/
theorem two4_eq (C S : Tile) (a b c : Lane) : Tab.two4 ⟨C, S, c, mulf b a⟩ =
    ⟨k0_pay39 rowNo a C S c b, k0_pay40 rowNo a C S c b, subf (k0_pay41 a c b) (k0_pay42 a c b),
      mulf (mulf twos (k0_pay34 a c b)) (k0_pay33 a c b)⟩ := rfl

/-- The body's values after the steps of 16 and 32 rows. -/
theorem two16_eq (C S : Tile) (a b c e : Lane) : Tab.two16 ⟨C, S, subf c e, mulf (mulf twos b) a⟩ =
    ⟨k0_pay57 rowNo a b C S c e, k0_pay60 (k0_pay50 rowNo a b C S c e) (k0_pay58 rowNo a b C S c e) (k0_pay59 rowNo),
      k0_pay61 (k0_pay51 a b c e) (k0_pay52 a b c e), k0_pay62 (k0_pay51 a b c e) (k0_pay52 a b c e)⟩ := rfl

/-- The body's values after the steps of 64 and 128 rows. -/
theorem two64_eq (C S V : Tile) (M : IVec S1024x1 1) (a b : Lane) :
    Tab.two64 ⟨C, k0_pay60 S V M, k0_pay61 a b, k0_pay62 a b⟩ =
    ⟨k0_pay75 rowNo S a b C V M, k0_pay77 (k0_pay68 rowNo S a b C V M) (k0_pay70 a b) (k0_pay72 rowNo S a b C V M) (k0_pay74 rowNo)
      (k0_pay76 rowNo S a b C V M), k0_pay78 (k0_pay69 a b) (k0_pay70 a b), k0_pay79 (k0_pay69 a b) (k0_pay70 a b)⟩ := rfl

/-- The table of real parts after the steps of 256 and 512 rows. -/
theorem two256_C (S U V W : Tile) (M : IVec S1024x1 1) (a b : Lane) :
    (Tab.two256 ⟨V, k0_pay77 S b U M W, k0_pay78 a b, k0_pay79 a b⟩).C =
    k0_pay98 (k0_pay84 rowNo S a b U M V W) (k0_pay92 rowNo S a b U M V W) (k0_pay93 rowNo) := rfl

/-- The table of imaginary parts after the steps of 256 and 512 rows. -/
theorem two256_S (S U V W : Tile) (M : IVec S1024x1 1) (a b : Lane) :
    (Tab.two256 ⟨V, k0_pay77 S b U M W, k0_pay78 a b, k0_pay79 a b⟩).S =
    k0_pay99 (k0_pay85 rowNo S a b U M V W) (k0_pay86 a b) (k0_pay87 a b) (k0_pay89 rowNo S a b U M V W)
      (k0_pay90 rowNo S a b U M V W) (k0_pay91 rowNo) := rfl

/-- The row of ones. -/
abbrev ones : Lane := broadcast S1x256 (Scalar.ofBits .f32 0x3F800000#32)

/-- The drive of a block: the input's rows `f`, plus `s - 1` times the row before, which is `fp` above the first. -/
def drive (s fp : Lane) (f : Tile) : Tile :=
  addf f (mulf (spread (subf s ones))
    (under 1 1023 slices_S1024x256_o0_0_S1023x256 concatenates_S1x256_S1023x256_S1024x256_d0 fp f))

/-- One block of the response: `h · (∑ C g + (z₁ c - z₂)) - p · (∑ S g - z₁ σ)`. -/
def response (c σ z₁ z₂ : Lane) (C S h p g : Tile) : Tile :=
  subf (mulf h (addf (runSum (mulf C g)) (spread (subf (mulf z₁ c) z₂))))
    (mulf p (subf (runSum (mulf S g)) (spread (mulf z₁ σ))))

/-- The body's value for the real part is the response. -/
theorem real_eq (s c σ z₁ z₂ fp : Lane) (C S h p f : Tile) :
    k0_pay142 p (k0_pay140 c z₁ z₂ (k0_pay129 (k0_pay121 s f fp C)) h)
      (k0_pay141 σ z₁ (k0_pay131 (k0_pay118 s f fp S) (k0_pay120 (F := Ideal)) (k0_pay123 s f fp S))) =
    response c σ z₁ z₂ C S h p (drive s fp f) := rfl

/-- The body's value for the imaginary part is the response. -/
theorem imag_eq (s c σ z₁ z₂ fp : Lane) (C S h p f : Tile) :
    k0_pay143 (k0_pay136 (k0_pay130 (k0_pay122 s f fp C)))
      (k0_pay137 (k0_pay127 (k0_pay119 s f fp S) (k0_pay120 (F := Ideal))) (k0_pay132 (k0_pay119 s f fp S) k0_pay120))
      h p (k0_pay138 c z₁ z₂) (k0_pay139 σ z₁) =
    response c σ z₁ z₂ C S h p (drive s fp f) := rfl

end Cert.KernelIdeal.Scan
-- ==== Proof.Point.lean ====
module
public import proofs.«01_k».proof.Proof.Tables
public import Idealize.ShloMosaic.Lib.Pipeline.ValueKit
public import Idealize.ShloMosaic.Lib.Pipeline.ReadBack

/-! What one grid point leaves: the output block, the six carried rows, and the scratch that the first point fills. -/

@[expose] public section
noncomputable section
open Idealize.ShloMosaic Idealize.ShloMosaic.TcCoe Idealize.SL.Sem
open Idealize.ShloMosaic.Pipeline (Dat)
namespace Cert.KernelIdeal.Scan
open Cert.KernelIdeal Cert.KernelIdeal.Gen

/-- One row of the carry, as a piece written to it. -/
abbrev rowPiece (k : ℕ) (inb : ∀ a, (![k, 0] : Fin 2 → ℕ) a + (![1, 256] : Fin 2 → ℕ) a ≤ S8x256.size a) (w : Lane) :
    View.Piece (Elt Ideal) S8x256 .f32 := ⟨Rect.unit ![k, 0] ![1, 256] inb, w⟩

/-- Reading the row that was written last. -/
theorem canon_hit {k : ℕ} (hk : k < 8) (inb) (w : Lane) (L : List (View.Piece (Elt Ideal) S8x256 .f32)) (p : Fin 256) :
    View.canon (rowPiece k inb w :: L) (ix2 ⟨k, hk⟩ p) = w (ix2 (0 : Fin 1) p) := by
  have e : (Rect.unit (s := S8x256) ![k, 0] ![1, 256] inb).emb (ix2 (0 : Fin 1) p) = ix2 ⟨k, hk⟩ p := by
    funext a; apply Fin.ext
    match a with
    | ⟨0, _⟩ => rfl
    | ⟨1, _⟩ => exact (Nat.zero_add _).trans (Nat.one_mul _)
  exact (congrArg _ e.symm).trans (View.canon_cons_emb _ _ _ _)

/-- Reading a row other than the one written last. -/
theorem canon_miss {k : ℕ} {j : Fin 8} (h : j.val ≠ k) (inb) (w : Lane) (L : List (View.Piece (Elt Ideal) S8x256 .f32))
    (p : Fin 256) : View.canon (rowPiece k inb w :: L) (ix2 j p) = View.canon L (ix2 j p) := by
  refine View.canon_cons_of_not_mem _ _ fun hm => ?_
  have h1 : k ≤ j.val ∧ j.val < k + 1 := (Rect.mem_set_unit (inb := inb)).1 hm (0 : Fin 2)
  omega

/-- A carry whose rows 0 to 5 are the last rows of the response, real and imaginary part, the rows before them, and
the last rows of the input, real and imaginary part. -/
structure Carried (b : FVec Ideal S8x256 .f32) (re im fr fi : Tile) : Prop where
  r0 : ∀ p : Fin 256, b (ix2 (0 : Fin 8) p) = re (ix2 (1023 : Fin 1024) p)
  r1 : ∀ p : Fin 256, b (ix2 (1 : Fin 8) p) = im (ix2 (1023 : Fin 1024) p)
  r2 : ∀ p : Fin 256, b (ix2 (2 : Fin 8) p) = re (ix2 (1022 : Fin 1024) p)
  r3 : ∀ p : Fin 256, b (ix2 (3 : Fin 8) p) = im (ix2 (1022 : Fin 1024) p)
  r4 : ∀ p : Fin 256, b (ix2 (4 : Fin 8) p) = fr (ix2 (1023 : Fin 1024) p)
  r5 : ∀ p : Fin 256, b (ix2 (5 : Fin 8) p) = fi (ix2 (1023 : Fin 1024) p)

/-- The last row of a tile. -/
abbrev last (x : Tile) : Lane := extractStridedSlice S1x256 ![1023, 0] x slices_S1024x256_o1023_0_S1x256

/-- The row before the last row of a tile. -/
abbrev last2 (x : Tile) : Lane := extractStridedSlice S1x256 ![1022, 0] x slices_S1024x256_o1022_0_S1x256

/-- The last row at a lane. -/
theorem last_apply (x : Tile) (p : Fin 256) : last x (ix2 (0 : Fin 1) p) = x (ix2 (1023 : Fin 1024) p) := by
  pointwise []

/-- The row before the last at a lane. -/
theorem last2_apply (x : Tile) (p : Fin 256) : last2 x (ix2 (0 : Fin 1) p) = x (ix2 (1022 : Fin 1024) p) := by
  pointwise []

/-- The six rows that a point writes to the carry. -/
abbrev carryPieces (re im fr fi : Tile) (L : List (View.Piece (Elt Ideal) S8x256 .f32)) :
    List (View.Piece (Elt Ideal) S8x256 .f32) :=
  rowPiece 5 inb_S8x256_S1x256_5_0 (last fi) :: rowPiece 4 inb_S8x256_S1x256_4_0 (last fr) ::
  rowPiece 3 inb_S8x256_S1x256_3_0 (last2 im) :: rowPiece 2 inb_S8x256_S1x256_2_0 (last2 re) ::
  rowPiece 1 inb_S8x256_S1x256_1_0 (last im) :: rowPiece 0 inb_S8x256_S1x256_0_0 (last re) :: L

/-- The carry after the six rows are written. -/
theorem carried_canon (re im fr fi : Tile) (L : List (View.Piece (Elt Ideal) S8x256 .f32)) :
    Carried (View.canon (carryPieces re im fr fi L)) re im fr fi where
  r0 p := by
    rw [canon_miss (by decide), canon_miss (by decide), canon_miss (by decide), canon_miss (by decide),
      canon_miss (by decide)]
    exact (canon_hit (by decide) _ _ _ p).trans (last_apply re p)
  r1 p := by
    rw [canon_miss (by decide), canon_miss (by decide), canon_miss (by decide), canon_miss (by decide)]
    exact (canon_hit (by decide) _ _ _ p).trans (last_apply im p)
  r2 p := by
    rw [canon_miss (by decide), canon_miss (by decide), canon_miss (by decide)]
    exact (canon_hit (by decide) _ _ _ p).trans (last2_apply re p)
  r3 p := by
    rw [canon_miss (by decide), canon_miss (by decide)]
    exact (canon_hit (by decide) _ _ _ p).trans (last2_apply im p)
  r4 p := by
    rw [canon_miss (by decide)]
    exact (canon_hit (by decide) _ _ _ p).trans (last_apply fr p)
  r5 p := (canon_hit (by decide) _ _ _ p).trans (last_apply fi p)

/-- Contents that agree with a carry on its first six rows are as good. -/
theorem Carried.of_eq {b b' : FVec Ideal S8x256 .f32} {re im fr fi : Tile} (h : Carried b re im fr fi)
    (e : ∀ (k : Fin 8) (p : Fin 256), k.val < 6 → b' (ix2 k p) = b (ix2 k p)) : Carried b' re im fr fi where
  r0 p := (e _ p (by decide)).trans (h.r0 p)
  r1 p := (e _ p (by decide)).trans (h.r1 p)
  r2 p := (e _ p (by decide)).trans (h.r2 p)
  r3 p := (e _ p (by decide)).trans (h.r3 p)
  r4 p := (e _ p (by decide)).trans (h.r4 p)
  r5 p := (e _ p (by decide)).trans (h.r5 p)

/-- Every one of the first six rows is in one of the six pieces. -/
theorem carry_cover (re im fr fi : Tile) (L : List (View.Piece (Elt Ideal) S8x256 .f32)) (k : Fin 8) (p : Fin 256)
    (h : k.val < 6) : ∃ q ∈ carryPieces re im fr fi L, ix2 k p ∈ q.1.set := by
  have key : ∀ (j : ℕ) (inb) (w : Lane), k.val = j → ix2 k p ∈ (rowPiece j inb w).1.set := by
    rintro j inb w rfl
    refine (Rect.mem_set_unit (inb := inb)).2
      (Fin.forall_fin_two.2 ⟨⟨le_refl _, Nat.lt_succ_self _⟩, ⟨Nat.zero_le _, ?_⟩⟩)
    exact (Nat.zero_add 256).symm ▸ p.isLt
  have hk : k.val = 0 ∨ k.val = 1 ∨ k.val = 2 ∨ k.val = 3 ∨ k.val = 4 ∨ k.val = 5 := by omega
  rcases hk with e | e | e | e | e | e
  · exact ⟨_, by simp only [List.mem_cons, true_or, or_true], key 0 inb_S8x256_S1x256_0_0 (last re) e⟩
  · exact ⟨_, by simp only [List.mem_cons, true_or, or_true], key 1 inb_S8x256_S1x256_1_0 (last im) e⟩
  · exact ⟨_, by simp only [List.mem_cons, true_or, or_true], key 2 inb_S8x256_S1x256_2_0 (last2 re) e⟩
  · exact ⟨_, by simp only [List.mem_cons, true_or, or_true], key 3 inb_S8x256_S1x256_3_0 (last2 im) e⟩
  · exact ⟨_, by simp only [List.mem_cons, true_or, or_true], key 4 inb_S8x256_S1x256_4_0 (last fr) e⟩
  · exact ⟨_, by simp only [List.mem_cons, true_or, or_true], key 5 inb_S8x256_S1x256_5_0 (last fi) e⟩

end Cert.KernelIdeal.Scan
-- ==== Proof.Step.lean ====
module
public import proofs.«01_k».proof.Proof.Point

/-! The two kinds of grid point as one step: from the carry and a block of input rows to the output block and the next
carry, over tables that the first point makes and the others find. -/

@[expose] public section
noncomputable section
open Idealize.ShloMosaic Idealize.ShloMosaic.TcCoe Idealize.SL.Sem
open Idealize.ShloMosaic.Pipeline (Dat)
namespace Cert.KernelIdeal.Scan
open Cert.KernelIdeal Cert.KernelIdeal.Gen

/-- The operands that every grid point sees whole. -/
structure Operands where
  steps : Lane
  diag : Lane
  bre : FVec Ideal S256x128 .f32
  bim : FVec Ideal S256x128 .f32
  cre : FVec Ideal S128x256 .f32
  cim : FVec Ideal S128x256 .f32
  skip : FVec Ideal S1x128 .f32

namespace Operands
variable (q : Operands)

/-- The step sizes. -/
def s : Lane := k0_pay94 q.steps
/-- The cosine of the rotation. -/
def c : Lane := k0_pay96 q.steps q.diag
/-- The sine of the rotation. -/
def σ : Lane := k0_pay97 q.steps q.diag
/-- The cosine over the sine. -/
def cot : Lane := k0_pay102 q.steps q.diag
/-- The table of real parts of powers. -/
def C : Tile := (powers q.c q.σ).C
/-- The table of imaginary parts of powers. -/
def S : Tile := (powers q.c q.σ).S
/-- The real part of the input matrix, transposed and scaled. -/
def br : FVec Ideal S128x256 .f32 := k0_pay3 q.s q.bre
/-- The imaginary part of the input matrix, transposed and scaled. -/
def bi : FVec Ideal S128x256 .f32 := k0_pay4 q.s q.bim
/-- The real part of the output matrix, transposed. -/
def cr : FVec Ideal S256x128 .f32 := k0_pay5 (F := Ideal) q.cre
/-- The imaginary part of the output matrix, transposed. -/
def ci : FVec Ideal S256x128 .f32 := k0_pay6 (F := Ideal) q.cim
/-- The first combination table. -/
def h : Tile := addf (mulf q.S (spread q.cot)) q.C
/-- The second combination table. -/
def p : Tile := subf (mulf q.C (spread q.cot)) q.S

variable (b : FVec Ideal S8x256 .f32) (x : FVec Ideal S1024x128 .f32)

/-- The real part of a block's input rows. -/
def fr : Tile := k0_pay105 x q.br
/-- The imaginary part of a block's input rows. -/
def fi : Tile := k0_pay106 x q.bi
/-- The real part of a block's response, from the carry. -/
def re : Tile := response q.c q.σ (k0_pay107 b) (k0_pay109 b) q.C q.S q.h q.p (drive q.s (k0_pay111 b) (q.fr x))
/-- The imaginary part of a block's response, from the carry. -/
def im : Tile := response q.c q.σ (k0_pay108 b) (k0_pay110 b) q.C q.S q.h q.p (drive q.s (k0_pay112 b) (q.fi x))
/-- A block's output rows, from the two parts of its response. -/
def out (re im : Tile) : FVec Ideal S1024x128 .f32 :=
  k0_pay1 x im (matmul dot_S1024x256_S256x128_S1024x128_1_0_0_1_n_n none re q.cr
    (constant S1024x128 .f32 0x00000000#32)) q.ci (constant S1024x128 .f32 0x00000000#32) q.skip

end Operands

/-- The contents a point leaves: output block, carry, and the eight tables. -/
abbrev Contents := Vec Ideal S1024x128 .f32 × Vec Ideal S8x256 .f32 × Vec Ideal S1024x256 .f32 ×
  Vec Ideal S1024x256 .f32 × Vec Ideal S1024x256 .f32 × Vec Ideal S1024x256 .f32 × Vec Ideal S128x256 .f32 ×
  Vec Ideal S128x256 .f32 × Vec Ideal S256x128 .f32 × Vec Ideal S256x128 .f32

/-- The tables are those of the operands. -/
abbrev Ready (q : Operands) (o : Contents) : Prop :=
  o.2.2 = (q.C, q.S, q.h, q.p, q.br, q.bi, q.cr, q.ci)

/-- What a point leaves, started at carry `b` with input rows `x`. -/
structure Left (q : Operands) (b : FVec Ideal S8x256 .f32) (x : FVec Ideal S1024x128 .f32) (o : Contents) : Prop where
  out : o.1 = q.out x (q.re b x) (q.im b x)
  carry : Carried o.2.1 (q.re b x) (q.im b x) (q.fr x) (q.fi x)
  ready : Ready q o

variable (m : (ℓ : Loc nD τ sig) → Buf (Elt Ideal) ℓ)

/-- The operands as a point finds them in its blocks. -/
def operands (c : Dev nD) (t : Fin cfg0.N) : Operands :=
  ⟨iblk m c 7 t, iblk m c 6 t, iblk m c 1 t, iblk m c 2 t, iblk m c 3 t, iblk m c 4 t, iblk m c 5 t⟩

/-- The output block of the first point. -/
theorem first_out (c : Dev nD) (t : Fin cfg0.N) (h0 : t.val % 8 = 0) : (outsAt0 m c t.val t.isLt).1 =
    (operands m c t).out (iblk m c 0 t) ((operands m c t).re k0_pay2 (iblk m c 0 t))
      ((operands m c t).im k0_pay2 (iblk m c 0 t)) := by
  rw [outsAt0_A m c t h0]
  dsimp only
  frame_open
  simp (disch := decide) only [↓ View.readCov_skip, ↓ View.readCov_cons_toLoadRect, ↓ View.readCov_fill]
  frame_out
  simp only [k0_pay150, k0_pay100, k0_pay101, k0_pay103, k0_pay104, shapeCast_self, real_eq, imag_eq]
  simp only [Operands.out, Operands.re, Operands.im, Operands.fr, Operands.fi, Operands.h, Operands.p, Operands.C,
    Operands.S, Operands.c, Operands.σ, Operands.s, Operands.cot, Operands.br,
    Operands.bi, Operands.cr, Operands.ci, operands]
  generalize iblk m c 7 t = steps
  generalize iblk m c 6 t = diag
  generalize k0_pay96 steps diag = cc
  generalize k0_pay97 steps diag = ss
  rw [← two256_C, ← two256_S, ← two64_eq, ← two16_eq, ← two4_eq, ← two1_eq]
  rfl

/-- The carry of the first point. -/
theorem first_carry (c : Dev nD) (t : Fin cfg0.N) (h0 : t.val % 8 = 0) : Carried (outsAt0 m c t.val t.isLt).2.1
    ((operands m c t).re k0_pay2 (iblk m c 0 t)) ((operands m c t).im k0_pay2 (iblk m c 0 t))
      ((operands m c t).fr (iblk m c 0 t)) ((operands m c t).fi (iblk m c 0 t)) := by
  rw [outsAt0_A m c t h0]
  dsimp only
  frame_open
  simp (disch := decide) only [↓ View.readCov_skip, ↓ View.readCov_cons_toLoadRect, ↓ View.readCov_fill]
  frame_out
  simp only [k0_pay144, k0_pay145, k0_pay146, k0_pay147, k0_pay148, k0_pay149, k0_pay100, k0_pay101, k0_pay103,
    k0_pay104, shapeCast_self, real_eq, imag_eq]
  simp only [Operands.out, Operands.re, Operands.im, Operands.fr, Operands.fi, Operands.h, Operands.p, Operands.C,
    Operands.S, Operands.c, Operands.σ, Operands.s, Operands.cot, Operands.br,
    Operands.bi, Operands.cr, Operands.ci, operands]
  generalize iblk m c 7 t = steps
  generalize iblk m c 6 t = diag
  generalize k0_pay96 steps diag = cc
  generalize k0_pay97 steps diag = ss
  rw [← two256_C, ← two256_S, ← two64_eq, ← two16_eq, ← two4_eq, ← two1_eq]
  exact carried_canon _ _ _ _ _

/-- The tables of the first point. -/
theorem first_ready (c : Dev nD) (t : Fin cfg0.N) (h0 : t.val % 8 = 0) :
    Ready (operands m c t) (outsAt0 m c t.val t.isLt) := by
  rw [outsAt0_A m c t h0]
  dsimp only [Ready]
  frame_open
  simp (disch := decide) only [↓ View.readCov_skip, ↓ View.readCov_cons_toLoadRect, ↓ View.readCov_fill]
  frame_out
  simp only [k0_pay100, k0_pay101, k0_pay103, k0_pay104, shapeCast_self]
  simp only [Operands.h, Operands.p, Operands.C, Operands.S, Operands.c, Operands.σ, Operands.s, Operands.cot, Operands.br,
    Operands.bi, Operands.cr, Operands.ci, operands]
  generalize iblk m c 7 t = steps
  generalize iblk m c 6 t = diag
  generalize k0_pay96 steps diag = cc
  generalize k0_pay97 steps diag = ss
  rw [← two256_C, ← two256_S, ← two64_eq, ← two16_eq, ← two4_eq, ← two1_eq]
  rfl

end Cert.KernelIdeal.Scan
-- ==== Proof.Steps.lean ====
module
public import proofs.«01_k».proof.Proof.Step

/-! Each grid point as a step, the first and the others. -/

@[expose] public section
noncomputable section
open Idealize.ShloMosaic Idealize.ShloMosaic.TcCoe Idealize.SL.Sem
open Idealize.ShloMosaic.Pipeline (Dat)
namespace Cert.KernelIdeal.Scan
open Cert.KernelIdeal Cert.KernelIdeal.Gen

variable (m : (ℓ : Loc nD τ sig) → Buf (Elt Ideal) ℓ)

/-- A first point starts at a carry of zeros. -/
theorem left_first (c : Dev nD) (t : Fin cfg0.N) (h0 : t.val % 8 = 0) :
    Left (operands m c t) k0_pay2 (iblk m c 0 t) (outsAt0 m c t.val t.isLt) :=
  ⟨first_out m c t h0, first_carry m c t h0, first_ready m c t h0⟩

/-- Another point starts at the carry of the point before and keeps its tables. -/
theorem left_next (c : Dev nD) (t : Fin cfg0.N) (h0 : ¬ t.val % 8 = 0)
    (hr : Ready (operands m c t) (outsAt0 m c (t.val - 1) (by have := t.isLt; omega))) :
    Left (operands m c t) (outsAt0 m c (t.val - 1) (by have := t.isLt; omega)).2.1 (iblk m c 0 t)
      (outsAt0 m c t.val t.isLt) := by
  rw [outsAt0_B m c t h0]
  generalize outsAt0 m c (t.val - 1) _ = o at hr ⊢
  obtain ⟨o1, o2, o3⟩ := o
  have he : o3 = _ := (show (o1, o2, o3).2.2 = _ from hr)
  subst he
  dsimp only
  refine ⟨?_, ?_, ?_⟩
  · dsimp only
    frame_out
    simp only [read_unread_whole]
    simp only [k0_pay150, shapeCast_self, real_eq, imag_eq]
    rfl
  · dsimp only
    frame_out
    simp only [read_unread_whole]
    simp only [k0_pay144, k0_pay145, k0_pay146, k0_pay147, k0_pay148, k0_pay149, shapeCast_self, real_eq, imag_eq]
    simp only [Operands.re, Operands.im, Operands.fr, Operands.fi, Operands.c, Operands.σ, Operands.s,
      operands]
    refine (carried_canon _ _ _ _ []).of_eq fun k p hk => ?_
    exact View.read_writes_apply_eq_canon _ _ _ _ (carry_cover _ _ _ _ [] k p hk)
  · rfl

end Cert.KernelIdeal.Scan
-- ==== Proof.Block.lean ====
module
public import proofs.«01_k».proof.Proof.Step

/-! What a block's response holds: the next 1024 values of the recurrence, if the carry holds the two values before. -/

@[expose] public section
noncomputable section
open Idealize.ShloMosaic Idealize.ShloMosaic.TcCoe Idealize.SL.Sem
namespace Cert.KernelIdeal.Scan
open Cert.KernelIdeal Cert.KernelIdeal.Gen Oscillator

/-- The row of ones holds one. -/
theorem ones_row : RowIs ones fun _ => 1 := fun p => Ideal.ofBits_one_f32

/-- The drive of a block that starts at row `N` of the input `F`. -/
theorem drive_holds {s : Fin 256 → ℝ} {F : Fin 256 → ℕ → ℝ} {N : ℕ} {rs fp : Lane} {f : Tile} (hs : RowIs rs s)
    (hp : RowIs fp fun p => late (F p) N) (hf : Holds 1024 f fun p n => F p (N + n)) :
    Holds 1024 (drive rs fp f) fun p n => F p (N + n) + (s p - 1) * late (F p) (N + n) := by
  refine hf.add ((hs.sub ones_row).spread.mul (w := fun p _ => s p - 1) (z := fun p n => late (F p) (N + n)) ?_)
  intro n p hn
  by_cases h : n.val < 1
  · rw [under_top _ _ _ _ h]
    have e : n.val = 0 := Nat.lt_one_iff.1 h
    refine (congrArg fp (congrArg₂ ix2 (Fin.ext e) rfl) : _ = fp (ix2 (0 : Fin 1) p)).trans ?_
    dsimp only
    rw [hp p, e, Nat.add_zero]
  · rw [under_rest _ _ _ _ h, hf _ _ (by dsimp only; omega)]
    dsimp only
    obtain ⟨k, hk⟩ : ∃ k, n.val = k + 1 := ⟨n.val - 1, by omega⟩
    rw [hk]
    rfl

/-- The operands give a rotation: the rows of step sizes, cosines and sines hold reals, and no sine is zero. -/
structure Turns (q : Operands) (s c σ : Fin 256 → ℝ) : Prop where
  rs : RowIs q.s s
  rc : RowIs q.c c
  rσ : RowIs q.σ σ
  circle : ∀ p, c p * c p + σ p * σ p = 1
  sine : ∀ p, σ p ≠ 0

variable {q : Operands} {s c σ : Fin 256 → ℝ}

/-- The cosine over the sine. -/
theorem Turns.rcot (h : Turns q s c σ) : RowIs q.cot fun p => c p / σ p := h.rc.div h.rσ h.sine

/-- The table of real parts. -/
theorem Turns.tC (h : Turns q s c σ) : Holds 1024 q.C fun p n => pre (c p) (σ p) n := (powers_right h.rc h.rσ).re

/-- The table of imaginary parts. -/
theorem Turns.tS (h : Turns q s c σ) : Holds 1024 q.S fun p n => pim (c p) (σ p) n := (powers_right h.rc h.rσ).im

/-- The first combination table is the next imaginary part over the sine. -/
theorem Turns.th (h : Turns q s c σ) : Holds 1024 q.h fun p n => pim (c p) (σ p) (n + 1) / σ p :=
  ((h.tS.mulSpread h.rcot).add h.tC).cong fun p n _ => by
    have := h.sine p
    rw [pim_succ]; field_simp

/-- The second combination table is the next real part over the sine. -/
theorem Turns.tp (h : Turns q s c σ) : Holds 1024 q.p fun p n => pre (c p) (σ p) (n + 1) / σ p :=
  ((h.tC.mulSpread h.rcot).sub h.tS).cong fun p n _ => by
    have := h.sine p
    rw [pre_succ]; field_simp

/-- A sequence follows the rotation's recurrence with drive `g`. -/
def Follows (c : Fin 256 → ℝ) (Y g : Fin 256 → ℕ → ℝ) : Prop :=
  ∀ p n, Y p (n + 2) = 2 * c p * Y p (n + 1) - Y p n + g p n

/-- A block's response holds the next values of the sequence. -/
theorem response_holds (h : Turns q s c σ) {Y g : Fin 256 → ℕ → ℝ} (hY : Follows c Y g) {N : ℕ} {z₁ z₂ : Lane} {d : Tile}
    (h1 : RowIs z₁ fun p => Y p (N + 1)) (h2 : RowIs z₂ fun p => Y p N) (hd : Holds 1024 d fun p n => g p (N + n)) :
    Holds 1024 (response q.c q.σ z₁ z₂ q.C q.S q.h q.p d) fun p n => Y p (N + n + 2) := by
  refine ((h.th.mul ((h.tC.mul hd).runSum.add ((h1.mul h.rc).sub h2).spread)).sub
    (h.tp.mul ((h.tS.mul hd).runSum.sub (h1.mul h.rσ).spread))).cong fun p n _ => ?_
  have e := solve (h.circle p) (Y := fun n => Y p (N + n)) (g := fun n => g p (N + n))
    (fun n => hY p (N + n)) (n + 1)
  have hs := h.sine p
  have e2 : Y p (N + n + 2) = (σ p * Y p (N + (n + 1 + 1))) / σ p := by
    rw [mul_div_cancel_left₀ _ hs]; rfl
  rw [e2, e, Nat.add_zero]
  ring_nf

end Cert.KernelIdeal.Scan
-- ==== Proof.Fold.lean ====
module
public import proofs.«01_k».proof.Proof.Steps
public import proofs.«01_k».proof.Proof.Block

/-! The grid as one fold: after each point the carry holds the last values of the sequence, and each block's response
holds its next 1024. -/

@[expose] public section
noncomputable section
open Idealize.ShloMosaic Idealize.ShloMosaic.TcCoe Idealize.SL.Sem
open Idealize.ShloMosaic.Pipeline (Dat)
namespace Cert.KernelIdeal.Scan
open Cert.KernelIdeal Cert.KernelIdeal.Gen Oscillator

/-- A complex sequence per lane, by its two parts. -/
structure Pair where
  re : Fin 256 → ℕ → ℝ
  im : Fin 256 → ℕ → ℝ

/-- The carry holds the values of `Y` at `N + 1` and `N`, and the value of `F` before `N`. -/
structure CarryIs (Y F : Pair) (N : ℕ) (b : FVec Ideal S8x256 .f32) : Prop where
  r0 : ∀ p : Fin 256, b (ix2 (0 : Fin 8) p) = ((Y.re p (N + 1) : ℝ) : EReal)
  r1 : ∀ p : Fin 256, b (ix2 (1 : Fin 8) p) = ((Y.im p (N + 1) : ℝ) : EReal)
  r2 : ∀ p : Fin 256, b (ix2 (2 : Fin 8) p) = ((Y.re p N : ℝ) : EReal)
  r3 : ∀ p : Fin 256, b (ix2 (3 : Fin 8) p) = ((Y.im p N : ℝ) : EReal)
  r4 : ∀ p : Fin 256, b (ix2 (4 : Fin 8) p) = ((late (F.re p) N : ℝ) : EReal)
  r5 : ∀ p : Fin 256, b (ix2 (5 : Fin 8) p) = ((late (F.im p) N : ℝ) : EReal)

section
variable {Y F : Pair} {N : ℕ} {b : FVec Ideal S8x256 .f32}

/-- Row 0 of the carry. -/
theorem CarryIs.p0 (h : CarryIs Y F N b) : RowIs (k0_pay107 b) fun p => Y.re p (N + 1) := fun p => by
  pointwise [k0_pay107]; exact h.r0 p
/-- Row 1 of the carry. -/
theorem CarryIs.p1 (h : CarryIs Y F N b) : RowIs (k0_pay108 b) fun p => Y.im p (N + 1) := fun p => by
  pointwise [k0_pay108]; exact h.r1 p
/-- Row 2 of the carry. -/
theorem CarryIs.p2 (h : CarryIs Y F N b) : RowIs (k0_pay109 b) fun p => Y.re p N := fun p => by
  pointwise [k0_pay109]; exact h.r2 p
/-- Row 3 of the carry. -/
theorem CarryIs.p3 (h : CarryIs Y F N b) : RowIs (k0_pay110 b) fun p => Y.im p N := fun p => by
  pointwise [k0_pay110]; exact h.r3 p
/-- Row 4 of the carry. -/
theorem CarryIs.p4 (h : CarryIs Y F N b) : RowIs (k0_pay111 b) fun p => late (F.re p) N := fun p => by
  pointwise [k0_pay111]; exact h.r4 p
/-- Row 5 of the carry. -/
theorem CarryIs.p5 (h : CarryIs Y F N b) : RowIs (k0_pay112 b) fun p => late (F.im p) N := fun p => by
  pointwise [k0_pay112]; exact h.r5 p

end

/-- What the sequences and the operands must obey: the rotation, the recurrence, and the start at zero. -/
structure Model (q : Operands) (s c σ : Fin 256 → ℝ) (Y F : Pair) : Prop where
  turns : Turns q s c σ
  re : Follows c Y.re fun p n => F.re p n + (s p - 1) * late (F.re p) n
  im : Follows c Y.im fun p n => F.im p n + (s p - 1) * late (F.im p) n
  re0 : ∀ p, Y.re p 0 = 0
  re1 : ∀ p, Y.re p 1 = 0
  im0 : ∀ p, Y.im p 0 = 0
  im1 : ∀ p, Y.im p 1 = 0

/-- The block of input rows `x` holds the rows of the sequence `F` from `N` on. -/
structure Feeds (q : Operands) (F : Pair) (N : ℕ) (x : FVec Ideal S1024x128 .f32) : Prop where
  re : Holds 1024 (q.fr x) fun p n => F.re p (N + n)
  im : Holds 1024 (q.fi x) fun p n => F.im p (N + n)

/-- A block's output is made of responses that hold the sequence from `N + 2` on. -/
def Made (q : Operands) (Y : Pair) (N : ℕ) (x o : FVec Ideal S1024x128 .f32) : Prop :=
  ∃ zr zi : Tile, o = q.out x zr zi ∧ Holds 1024 zr (fun p n => Y.re p (N + n + 2)) ∧
    Holds 1024 zi (fun p n => Y.im p (N + n + 2))

section
variable {q : Operands} {s c σ : Fin 256 → ℝ} {Y F : Pair} {N : ℕ} {b : FVec Ideal S8x256 .f32}
  {x : FVec Ideal S1024x128 .f32} {o : Contents}

/-- The real part of the response. -/
theorem Model.holds_re (h : Model q s c σ Y F) (hb : CarryIs Y F N b) (hx : Feeds q F N x) :
    Holds 1024 (q.re b x) fun p n => Y.re p (N + n + 2) :=
  response_holds h.turns h.re hb.p0 hb.p2 (drive_holds h.turns.rs hb.p4 hx.re)

/-- The imaginary part of the response. -/
theorem Model.holds_im (h : Model q s c σ Y F) (hb : CarryIs Y F N b) (hx : Feeds q F N x) :
    Holds 1024 (q.im b x) fun p n => Y.im p (N + n + 2) :=
  response_holds h.turns h.im hb.p1 hb.p3 (drive_holds h.turns.rs hb.p5 hx.im)

/-- A point makes its output and leaves the carry for the next block. -/
theorem Left.made (l : Left q b x o) (h : Model q s c σ Y F) (hb : CarryIs Y F N b) (hx : Feeds q F N x) :
    Made q Y N x o.1 ∧ CarryIs Y F (N + 1024) o.2.1 := by
  have er := h.holds_re hb hx
  have ei := h.holds_im hb hx
  refine ⟨⟨_, _, l.out, er, ei⟩, ?_, ?_, ?_, ?_, ?_, ?_⟩ <;> intro p
  · rw [l.carry.r0 p, er _ _ (by decide)]; rfl
  · rw [l.carry.r1 p, ei _ _ (by decide)]; rfl
  · rw [l.carry.r2 p, er _ _ (by decide)]; rfl
  · rw [l.carry.r3 p, ei _ _ (by decide)]; rfl
  · rw [l.carry.r4 p, hx.re _ _ (by decide)]; rfl
  · rw [l.carry.r5 p, hx.im _ _ (by decide)]; rfl

/-- A carry of zeros is the carry of the start. -/
theorem Model.zero (h : Model q s c σ Y F) : CarryIs Y F 0 (k0_pay2 (F := Ideal)) := by
  have z : ∀ k : Fin 8, ∀ p : Fin 256, (k0_pay2 (F := Ideal)) (ix2 k p) = 0 := fun k p => by
    pointwise [k0_pay2]
  refine ⟨?_, ?_, ?_, ?_, ?_, ?_⟩ <;> intro p <;> rw [z]
  · rw [h.re1]; simp
  · rw [h.im1]; simp
  · rw [h.re0]; simp
  · rw [h.im0]; simp
  · rfl
  · rfl

end

variable (m : (ℓ : Loc nD τ sig) → Buf (Elt Ideal) ℓ)

/-- After every point: its output block is made of the right responses, the carry is ready for the next block, and the
tables stand. -/
theorem fold (d : Dev nD) {q : Operands} {s c σ : Fin 256 → ℝ} {Y F : Pair} (h : Model q s c σ Y F)
    (hq : ∀ t, operands m d t = q) (hx : ∀ t : Fin cfg0.N, Feeds q F (1024 * t.val) (iblk m d 0 t)) :
    ∀ (n : ℕ) (hn : n < cfg0.N), Made q Y (1024 * n) (iblk m d 0 ⟨n, hn⟩) (outsAt0 m d n hn).1 ∧
      CarryIs Y F (1024 * n + 1024) (outsAt0 m d n hn).2.1 ∧ Ready q (outsAt0 m d n hn)
  | 0, hn => by
    have l := left_first m d ⟨0, hn⟩ rfl
    rw [hq] at l
    obtain ⟨h1, h2⟩ := l.made h h.zero (hx ⟨0, hn⟩)
    exact ⟨h1, h2, l.ready⟩
  | n + 1, hn => by
    obtain ⟨-, h2, h3⟩ := fold d h hq hx n (by omega)
    have h8 : n + 1 < 8 := hn
    have l := left_next m d ⟨n + 1, hn⟩ (by dsimp only; omega) (by rw [hq]; exact h3)
    rw [hq] at l
    obtain ⟨k1, k2⟩ := l.made (N := 1024 * (n + 1)) h h2 (hx ⟨n + 1, hn⟩)
    exact ⟨k1, k2, l.ready⟩

end Cert.KernelIdeal.Scan
-- ==== Proof.Reads.lean ====
module
public import proofs.«01_k».proof.Proof.Fold

/-! The blocks that the grid points see, as reads of the arguments. -/

@[expose] public section
noncomputable section
open Idealize.ShloMosaic Idealize.ShloMosaic.TcCoe Idealize.SL.Sem
open Idealize.ShloMosaic.Pipeline (Dat)
namespace Cert.KernelIdeal.Scan
open Cert.KernelIdeal Cert.KernelIdeal.Gen

variable (m : (ℓ : Loc nD τ sig) → Buf (Elt Ideal) ℓ) (d : Dev nD)

/-- A vector as an array of one row. -/
def asRow {n : ℕ} (v : FVec Ideal ⟨1, ![n]⟩ .f32) : FVec Ideal ⟨2, ![1, n]⟩ .f32 := fun j => v (ix1 (j 1))

/-- The operands, from the arguments. -/
def argOperands : Operands where
  steps := asRow (m ((d : Thread nD τ).loc main_arg7))
  diag := asRow (m ((d : Thread nD τ).loc main_arg1))
  bre := m ((d : Thread nD τ).loc main_arg2)
  bim := m ((d : Thread nD τ).loc main_arg3)
  cre := m ((d : Thread nD τ).loc main_arg4)
  cim := m ((d : Thread nD τ).loc main_arg5)
  skip := asRow (m ((d : Thread nD τ).loc main_arg6))

/-- The real input weights stay at their only block. -/
theorem idx1 : ∀ t : Fin grid0.N, win0_1.index t = ![0, 0] := by decide +kernel
/-- The imaginary input weights stay at their only block. -/
theorem idx2 : ∀ t : Fin grid0.N, win0_2.index t = ![0, 0] := by decide +kernel
/-- The real output weights stay at their only block. -/
theorem idx3 : ∀ t : Fin grid0.N, win0_3.index t = ![0, 0] := by decide +kernel
/-- The imaginary output weights stay at their only block. -/
theorem idx4 : ∀ t : Fin grid0.N, win0_4.index t = ![0, 0] := by decide +kernel
/-- The skip vector stays at its only block. -/
theorem idx5 : ∀ t : Fin grid0.N, win0_5.index t = ![0, 0] := by decide +kernel
/-- The frequencies stay at their only block. -/
theorem idx6 : ∀ t : Fin grid0.N, win0_6.index t = ![0, 0] := by decide +kernel
/-- The steps stay at their only block. -/
theorem idx7 : ∀ t : Fin grid0.N, win0_7.index t = ![0, 0] := by decide +kernel
/-- The input moves one block per point. -/
theorem idx0 : ∀ t : Fin grid0.N, win0_0.index t = ![t.val, 0] := by decide +kernel
/-- The result moves one block per point. -/
theorem idx8 : ∀ t : Fin grid0.N, win0_8.index t = ![t.val, 0] := by decide +kernel

/-- Every point sees the same operands. -/
theorem operands_eq (t : Fin cfg0.N) : operands m d t = argOperands m d := by
  have e1 : iblk m d 1 t = m ((d : Thread nD τ).loc main_arg2) := by
    funext y; blk_ext! [iblk, V, idx1 t]
  have e2 : iblk m d 2 t = m ((d : Thread nD τ).loc main_arg3) := by
    funext y; blk_ext! [iblk, V, idx2 t]
  have e3 : iblk m d 3 t = m ((d : Thread nD τ).loc main_arg4) := by
    funext y; blk_ext! [iblk, V, idx3 t]
  have e4 : iblk m d 4 t = m ((d : Thread nD τ).loc main_arg5) := by
    funext y; blk_ext! [iblk, V, idx4 t]
  have e5 : iblk m d 5 t = asRow (m ((d : Thread nD τ).loc main_arg6)) := by
    funext y; idx_vars y; blk_ext! [iblk, V, idx5 t]
  have e6 : iblk m d 6 t = asRow (m ((d : Thread nD τ).loc main_arg1)) := by
    funext y; idx_vars y; blk_ext! [iblk, V, idx6 t]
  have e7 : iblk m d 7 t = asRow (m ((d : Thread nD τ).loc main_arg7)) := by
    funext y; idx_vars y; blk_ext! [iblk, V, idx7 t]
  rw [operands, e1, e2, e3, e4, e5, e6, e7]; rfl

/-- A point's input rows. -/
theorem rows_eq (t : Fin cfg0.N) (n : Fin 1024) (k : Fin 128) (h : 1024 * t.val + n.val < 8192) :
    iblk m d 0 t (ix2 n k) = m ((d : Thread nD τ).loc main_arg0) (ix2 ⟨1024 * t.val + n.val, h⟩ k) := by
  blk_ext! [iblk, V, idx0 t]

end Cert.KernelIdeal.Scan
-- ==== Proof.Output.lean ====
module
public import proofs.«01_k».proof.Proof.Reads

/-! The array that the kernel leaves, from the sequence that its blocks hold. -/

@[expose] public section
noncomputable section
open Idealize.ShloMosaic Idealize.ShloMosaic.TcCoe Idealize.SL.Sem
open Idealize.ShloMosaic.Pipeline (Dat)
namespace Cert.KernelIdeal.Scan
open Cert.KernelIdeal Cert.KernelIdeal.Gen

/-- The result: the output matrix applied to the sequence from its second term on, real part of the product, plus the
input times the skip vector. -/
def result (Y : Pair) (x : FVec Ideal S8192x128 .f32) (cre cim : FVec Ideal S128x256 .f32) (skip : FVec Ideal S128 .f32) :
    FVec Ideal S8192x128 .f32 := fun j =>
  (∑ p : Fin 256, ((Y.re p ((j 0).val + 2) : ℝ) : EReal) * cre (ix2 (j 1) p))
    - (∑ p : Fin 256, ((Y.im p ((j 0).val + 2) : ℝ) : EReal) * cim (ix2 (j 1) p)) + x j * skip (ix1 (j 1))

/-- A block's output at an element. -/
theorem out_apply (q : Operands) (x : FVec Ideal S1024x128 .f32) (zr zi : Tile) (n : Fin 1024) (k : Fin 128) :
    q.out x zr zi (ix2 n k) = (∑ p : Fin 256, zr (ix2 n p) * q.cre (ix2 k p)) - (∑ p : Fin 256, zi (ix2 n p) * q.cim (ix2 k p))
      + x (ix2 n k) * q.skip (ix2 (0 : Fin 1) k) := by
  pointwise [Operands.out, Operands.cr, Operands.ci, k0_pay1, k0_pay5, k0_pay6]

variable (m : (ℓ : Loc nD τ sig) → Buf (Elt Ideal) ℓ) (d : Dev nD)

/-- A block that is made of the right responses is the block of the result. -/
theorem Made.eq {Y : Pair} {N : ℕ} {x o : FVec Ideal S1024x128 .f32} (h : Made (argOperands m d) Y N x o)
    (hx : ∀ (n : Fin 1024) (k : Fin 128) (hn : N + n.val < 8192),
      x (ix2 n k) = m ((d : Thread nD τ).loc main_arg0) (ix2 ⟨N + n.val, hn⟩ k))
    (n : Fin 1024) (k : Fin 128) (hn : N + n.val < 8192) :
    o (ix2 n k) = result Y (m ((d : Thread nD τ).loc main_arg0)) (m ((d : Thread nD τ).loc main_arg4))
      (m ((d : Thread nD τ).loc main_arg5)) (m ((d : Thread nD τ).loc main_arg6)) (ix2 ⟨N + n.val, hn⟩ k) := by
  obtain ⟨zr, zi, rfl, hr, hi⟩ := h
  rw [out_apply, hx n k hn]
  simp only [fun p => hr n p n.isLt, fun p => hi n p n.isLt]
  rfl

/-- The array after the run. -/
theorem final {s c σ : Fin 256 → ℝ} {Y F : Pair} (h : Model (argOperands m d) s c σ Y F)
    (hx : ∀ t : Fin cfg0.N, Feeds (argOperands m d) F (1024 * t.val) (iblk m d 0 t)) :
    (dats m 0 d).arrAt 8 cfg0.N = result Y (m ((d : Thread nD τ).loc main_arg0)) (m ((d : Thread nD τ).loc main_arg4))
      (m ((d : Thread nD τ).loc main_arg5)) (m ((d : Thread nD τ).loc main_arg6)) := by
  refine (dats m 0 d).arrAt_eq_of_covers 8 _ (by decide +kernel) fun t hf y => ?_
  blk_simp
  rw [after0_8]
  have ht : t.val < 8 := t.isLt
  have hm := (fold m d h (operands_eq m d) hx t.val t.isLt).1
  obtain ⟨n, k, rfl⟩ : ∃ (n : Fin 1024) (k : Fin 128), y = ix2 n k := ⟨y 0, y 1, eq_ix2 y⟩
  have hn : 1024 * t.val + n.val < 8192 := by have := n.isLt; omega
  refine (hm.eq m d (rows_eq m d t) n k hn).trans (congrArg _ ?_)
  blk_ext! [idx8 t]

end Cert.KernelIdeal.Scan
-- ==== Proof.Given.lean ====
module
public import proofs.«01_k».proof.Proof.Recur
public import Idealize.ShloMosaic.Lib.Pointwise
public import Idealize.ShloMosaic.Lib.ReduceAll
public import Mathlib.Tactic.Linarith

/-! Real numbers behind the arguments: what the bounds on them say about one lane. -/

@[expose] public section
noncomputable section
open Idealize.ShloMosaic
namespace Oscillator

/-- The least value that the square of the sine may take. -/
def least : ℝ := 10141205 / 10141204801825835211973625643008

/-- The least value is positive. -/
theorem least_pos : 0 < least := by unfold least; positivity

/-- The word of the least value. -/
theorem word_least : (Ideal.ofBits .f32 0x179ABE15#32 : EReal) = ((least : ℝ) : EReal) := by
  simp [Ideal.ofBits, Ideal.ieee, -EReal.coe_mul, least]; norm_num

/-- The word of one half. -/
theorem word_half : (Ideal.ofBits .f32 0x3F000000#32 : EReal) = ((1 / 2 : ℝ) : EReal) := by
  simp [Ideal.ofBits, Ideal.ieee, -EReal.coe_mul]; norm_num

/-- The word of one quarter. -/
theorem word_quarter : (Ideal.ofBits .f32 0x3E800000#32 : EReal) = ((1 / 4 : ℝ) : EReal) := by
  simp [Ideal.ofBits, Ideal.ieee, -EReal.coe_mul]; norm_num

/-- The word of infinity. -/
theorem word_top : (Ideal.ofBits .f32 0x7F800000#32 : EReal) = ⊤ := by
  simp [Ideal.ofBits, Ideal.ieee]

/-- The logistic function takes real values, infinite arguments included. -/
theorem logistic_real (x : EReal) : ∃ s : ℝ, 0 ≤ s ∧ Ideal.logistic x = ((s : ℝ) : EReal) := by
  induction x with
  | bot =>
    have e : Ideal.exp (-(⊥ : EReal)) = ⊤ := by rw [EReal.neg_bot]; rfl
    have e1 : (1 : EReal) + ⊤ = ⊤ := EReal.coe_add_top 1
    exact ⟨0, le_rfl, by rw [Ideal.logistic, e, e1]; simp [Ideal.div]⟩
  | top =>
    have e : Ideal.exp (-(⊤ : EReal)) = 0 := by rw [EReal.neg_top]; rfl
    exact ⟨1, zero_le_one, by rw [Ideal.logistic, e]; simp [Ideal.div]⟩
  | coe r =>
    refine ⟨1 / (1 + Real.exp (-r)), by positivity, ?_⟩
    have e : (1 : EReal) + Ideal.exp (-(r : EReal)) = ((1 + Real.exp (-r) : ℝ) : EReal) := by
      rw [← EReal.coe_neg, Ideal.exp_coe]; norm_cast
    rw [Ideal.logistic, e, Ideal.div_coe (by positivity), one_mul]

/-- The bound on the sine makes the frequency real. -/
theorem freq_real {s : ℝ} (hs : 0 ≤ s) (a : EReal)
    (h : ((least : ℝ) : EReal) ≤ ((s : EReal) * s * max a 0) * (1 - ((1 / 4 : ℝ) : EReal) * ((s : EReal) * s * max a 0))) :
    ∃ α : ℝ, max a 0 = ((α : ℝ) : EReal) ∧ least ≤ s * s * α * (1 - 1 / 4 * (s * s * α)) := by
  have h0 : (0 : EReal) ≤ max a 0 := le_max_right _ _
  generalize max a 0 = b at h h0
  induction b with
  | bot => simp at h0
  | coe r => exact ⟨r, rfl, by exact_mod_cast h⟩
  | top =>
    exfalso
    rcases hs.eq_or_lt with e | e
    · rw [← e] at h
      simp only [EReal.coe_zero, zero_mul, mul_zero] at h
      have hn : least ≤ 0 := by exact_mod_cast h
      exact absurd least_pos (not_lt.2 hn)
    · have hp : ((s : EReal) * s * ⊤) = ⊤ := by
        rw [← EReal.coe_mul]; exact EReal.coe_mul_top_of_pos (by positivity)
      rw [hp, EReal.coe_mul_top_of_pos (by norm_num), EReal.sub_top, EReal.top_mul_bot] at h
      simp at h

/-- A number whose absolute value is below infinity is real. -/
theorem real_of_abs {x : EReal} (h : max x (-x) < ⊤) : ∃ r : ℝ, x = ((r : ℝ) : EReal) := by
  induction x with
  | bot => simp at h
  | top => simp at h
  | coe r => exact ⟨r, rfl⟩

/-- Half the trace of one step. -/
def cosine (s α : ℝ) : ℝ := 1 - 1 / 2 * (s * s * α)

/-- The sine that goes with the cosine. -/
def sine (s α : ℝ) : ℝ := √(s * s * α * (1 - 1 / 4 * (s * s * α)))

/-- The drive of each lane at each time: the input through the weights, times the gain. -/
def feed (X : Fin 8192 → Fin 128 → ℝ) (B : Fin 256 → Fin 128 → ℝ) (s : Fin 256 → ℝ) (p : Fin 256) (n : ℕ) : ℝ :=
  if h : n < 8192 then (∑ k, X ⟨n, h⟩ k * B p k) * s p else 0

/-- The influence of the second component on the first. -/
def upper (s α : ℝ) : ℝ := -s * α

/-- The influence of the second component on itself. -/
def lower (s α : ℝ) : ℝ := 1 - s * s * α

/-- They lie on the unit circle. -/
theorem on_circle {s α : ℝ} (h : least ≤ s * s * α * (1 - 1 / 4 * (s * s * α))) :
    cosine s α * cosine s α + sine s α * sine s α = 1 := by
  unfold sine
  rw [Real.mul_self_sqrt (least_pos.le.trans h), cosine]; ring

/-- The sine is not zero. -/
theorem sine_ne {s α : ℝ} (h : least ≤ s * s * α * (1 - 1 / 4 * (s * s * α))) : sine s α ≠ 0 :=
  (Real.sqrt_pos.2 (least_pos.trans_le h)).ne'

end Oscillator
-- ==== Proof.Bounds.lean ====
module
public import proofs.«01_k».proof.Pre_oscillates
public import proofs.«01_k».proof.Proof.Gen.Pre_oscillates
public import proofs.«01_k».proof.Proof.Given
public import Idealize.ShloMosaic.Lib.Pointwise.IndexVar
public import Idealize.ShloMosaic.Lib.WordCmp

/-! The precondition, read as statements about real numbers. -/

@[expose] public section
noncomputable section
open Idealize.ShloMosaic Idealize.ShloMosaic.TcCoe
namespace Oscillator

/-- The real numbers that the arguments stand for: input, input weights, gain and frequency, and the bound. -/
structure Given (x : FVec Ideal ⟨2, ![8192, 128]⟩ .f32) (diag : FVec Ideal ⟨1, ![256]⟩ .f32)
    (bre bim : FVec Ideal ⟨2, ![256, 128]⟩ .f32) (steps : FVec Ideal ⟨1, ![256]⟩ .f32)
    (X : Fin 8192 → Fin 128 → ℝ) (Br Bi : Fin 256 → Fin 128 → ℝ) (s α : Fin 256 → ℝ) : Prop where
  input : ∀ n h, x (ix2 n h) = ((X n h : ℝ) : EReal)
  weight_re : ∀ p h, bre (ix2 p h) = ((Br p h : ℝ) : EReal)
  weight_im : ∀ p h, bim (ix2 p h) = ((Bi p h : ℝ) : EReal)
  gain : ∀ p, Ideal.logistic (steps (ix1 p)) = ((s p : ℝ) : EReal)
  freq : ∀ p, max (diag (ix1 p)) 0 = ((α p : ℝ) : EReal)
  bound : ∀ p, least ≤ s p * s p * α p * (1 - 1 / 4 * (s p * s p * α p))

/-- A comparison that says one is true: below. -/
theorem lt_of_word {a b : EReal} (h : FloatOps.cmpf (F := Ideal) (φ := .f32) .olt a b = 1#1) : a < b := by
  by_contra hn
  simp [FloatOps.cmpf, Ideal.cmp, hn] at h

/-- A comparison that says one is true: at least. -/
theorem ge_of_word {a b : EReal} (h : FloatOps.cmpf (F := Ideal) (φ := .f32) .oge a b = 1#1) : b ≤ a := by
  by_contra hn
  simp [FloatOps.cmpf, Ideal.cmp, hn] at h

end Oscillator

namespace Cert.Pre_oscillates
open Oscillator Cert.Pre_oscillates.Gen

/-- The square of the gain times the frequency, as the precondition writes it. -/
def square (diag steps : FVec Ideal S256 .f32) : FVec Ideal S256 .f32 :=
  mulf (mulf (Host.divf (broadcastInDim S256 ![] bcast_S_S256 (constant S_ .f32 0x3F800000#32)) (addf (broadcastInDim S256 ![] bcast_S_S256 (constant S_ .f32 0x3F800000#32)) (Host.exp (Host.negf steps))))
    (Host.divf (broadcastInDim S256 ![] bcast_S_S256 (constant S_ .f32 0x3F800000#32)) (addf (broadcastInDim S256 ![] bcast_S_S256 (constant S_ .f32 0x3F800000#32)) (Host.exp (Host.negf steps)))))
    (maximumf diag (broadcastInDim S256 ![] bcast_S_S256 (constant S_ .f32 0x00000000#32)))

/-- The square of the gain times the frequency at one lane. -/
theorem square_apply (diag steps : FVec Ideal S256 .f32) (p : Fin 256) : square diag steps (ix1 p) =
    Ideal.logistic (steps (ix1 p)) * Ideal.logistic (steps (ix1 p)) * max (diag (ix1 p)) 0 := by
  pointwise [square]
  rfl

/-- The precondition gives real numbers that obey the bound. -/
theorem given (x : FVec Ideal S8192x128 .f32) (diag : FVec Ideal S256 .f32) (bre bim : FVec Ideal S256x128 .f32)
    (cre cim : FVec Ideal S128x256 .f32) (skip : FVec Ideal S128 .f32) (steps : FVec Ideal S256 .f32)
    (h : fn (F := Ideal) x diag bre bim cre cim skip steps = fun _ => 1#1) :
    ∃ X Br Bi s α, Given x diag bre bim steps X Br Bi s α := by
  have h0 := congrFun h (Shape.Idx.first h_S_)
  have hsub : Subsingleton S_.Idx := ⟨fun a b => funext fun k => k.elim0⟩
  simp only [fn, fn_part1, andi_apply, IntOp.andi_eq_one] at h0
  obtain ⟨⟨⟨hx, hr⟩, hi⟩, hb⟩ := h0
  have ax := fun n k => lt_of_word (Host.reduce_andi_all _ _ _ _ _ hx (ix2 n k))
  have ar := fun n k => lt_of_word (Host.reduce_andi_all _ _ _ _ _ hr (ix2 n k))
  have ai := fun n k => lt_of_word (Host.reduce_andi_all _ _ _ _ _ hi (ix2 n k))
  have ab := fun p => ge_of_word (Host.reduce_andi_all _ _ _ _ _ hb (ix1 p))
  have rx : ∀ n k, ∃ r : ℝ, x (ix2 n k) = ((r : ℝ) : EReal) := fun n k => real_of_abs (by
    refine lt_of_lt_of_eq (ax n k) ?_
    pointwise []
    exact word_top)
  have rr : ∀ n k, ∃ r : ℝ, bre (ix2 n k) = ((r : ℝ) : EReal) := fun n k => real_of_abs (by
    refine lt_of_lt_of_eq (ar n k) ?_
    pointwise []
    exact word_top)
  have ri : ∀ n k, ∃ r : ℝ, bim (ix2 n k) = ((r : ℝ) : EReal) := fun n k => real_of_abs (by
    refine lt_of_lt_of_eq (ai n k) ?_
    pointwise []
    exact word_top)
  choose X hX using rx
  choose Br hBr using rr
  choose Bi hBi using ri
  choose s hs0 hs using fun p => logistic_real (steps (ix1 p))
  have hq : ∀ p, ∃ α : ℝ, max (diag (ix1 p)) 0 = ((α : ℝ) : EReal) ∧
      least ≤ s p * s p * α * (1 - 1 / 4 * (s p * s p * α)) := fun p => by
    refine freq_real (hs0 p) _ ?_
    have e : square diag steps (ix1 p) = (s p : EReal) * s p * max (diag (ix1 p)) 0 := by rw [square_apply, hs p]
    rw [← e]
    have hp := ab p
    rw [← word_least, ← word_quarter]
    refine le_of_eq_of_le ?_ (le_of_le_of_eq hp ?_)
    · pointwise []
    · change mulf (square diag steps) (subf (broadcastInDim S256 ![] bcast_S_S256 (constant S_ .f32 0x3F800000#32)) (mulf (broadcastInDim S256 ![] bcast_S_S256 (constant S_ .f32 0x3E800000#32)) (square diag steps))) (ix1 p) = _
      pointwise []
  choose α hα hb' using hq
  exact ⟨X, Br, Bi, s, α, hX, hBr, hBi, hs, hα, hb'⟩

end Cert.Pre_oscillates
-- ==== Proof.RefRow.lean ====
module
public import proofs.«01_k».proof.Proof.Gen.ReferenceIdeal.Run
public import proofs.«01_k».proof.Proof.Recur
public import Idealize.ShloMosaic.Lib.Pointwise
public import Idealize.ShloMosaic.Lib.Pointwise.IndexVar
public import Idealize.ShloMosaic.Lib.DynamicIndex
public import Idealize.ShloMosaic.Lib.Pipeline.Value

/-! One row of the reference's arrays, read and written at a position that is counted. -/

@[expose] public section
noncomputable section
open Idealize.ShloMosaic Idealize.ShloMosaic.TcCoe Idealize.SL.Sem
namespace Cert.ReferenceIdeal.Scan
open Cert.ReferenceIdeal Cert.ReferenceIdeal.Gen

/-- The counter before trip `k`. -/
abbrev counter (k : ℕ) : IVec S_ 32 := fun _ => Scf.iv 0#32 1#32 k

/-- Where the loop reads and writes: row by the counter, column zero. -/
abbrev place (n : IVec S_ 32) : Fin 2 → Int := fun a => ((![n, constantI S_ 32 0#32] : Fin 2 → IVec S_ 32) a (Shape.Idx.first h_S_)).toInt

/-- The place before trip `k` is row `k`. -/
theorem place_counter {k : ℕ} (hk : k < 8192) (a : Fin 2) : place (counter k) a = ((![k, 0] : Fin 2 → ℕ) a : Int) := by
  match a with
  | ⟨0, _⟩ =>
    show (Scf.iv 0#32 1#32 k).toInt = (k : Int)
    rw [Scf.iv_eq_ofInt, BitVec.toInt_ofInt, Int.bmod_def]
    have e0 : (0#32).toInt = 0 := by decide
    have e1 : (1#32).toInt = 1 := by decide
    rw [e0, e1]; omega
  | ⟨1, _⟩ => rfl

/-- One row fits. -/
theorem row_fits {k : ℕ} (hk : k < 8192) : S8192x256.Slices ![k, 0] S1x256 :=
  ⟨rfl, fun a => by
    match a with
    | ⟨0, _⟩ => show k + 1 ≤ 8192; omega
    | ⟨1, _⟩ => show 0 + 256 ≤ 256; omega⟩

/-- The row that trip `k` reads. -/
theorem row_read (x : FVec Ideal S8192x256 .f32) {k : ℕ} (hk : k < 8192) (h : S8192x256.Slices (fun _ => 0) S1x256)
    (hc : S1x256.ShapeCasts S256) (p : Fin 256) :
    shapeCast S256 (Host.dynamicSlice S1x256 x (place (counter k)) h) hc (ix1 p) = x (ix2 ⟨k, hk⟩ p) := by
  rw [Host.dynamicSlice_eq_extractStridedSlice S1x256 x _ ![k, 0] h (row_fits hk) (place_counter hk)]
  pointwise []

/-- The array after trip `k` writes its row. -/
theorem row_write (y : FVec Ideal S8192x256 .f32) (v : FVec Ideal S256 .f32) {k : ℕ} (hk : k < 8192)
    (h : S8192x256.Slices (fun _ => 0) S1x256) (hb : S256.BroadcastsInDim S1x256 (![1] : Fin 1 → Fin S1x256.rank)) (n : Fin 8192) (p : Fin 256) :
    Host.dynamicUpdateSlice y (broadcastInDim S1x256 ![1] hb v) (place (counter k)) h (ix2 n p) =
      if n.val = k then v (ix1 p) else y (ix2 n p) := by
  rw [Host.dynamicUpdateSlice_eq_updateSlice y _ _ h ![k, 0]
    (fun a => by have := (row_fits hk).2 a; rw [place_counter hk a]; omega) (row_fits hk)]
  by_cases e : n.val = k
  · rw [if_pos e, updateSlice_apply]
    refine (dif_pos ?_).trans ?_
    · intro a
      match a with
      | ⟨0, _⟩ => show k ≤ n.val ∧ n.val < k + 1; omega
      | ⟨1, _⟩ => show 0 ≤ p.val ∧ p.val < 0 + 256; have := p.isLt; omega
    · pointwise []
  · rw [if_neg e, updateSlice_apply]
    exact dif_neg fun hh => by
      have h0 : k ≤ n.val ∧ n.val < k + 1 := hh 0
      omega

end Cert.ReferenceIdeal.Scan
-- ==== Proof.RefLoop.lean ====
module
public import proofs.«01_k».proof.Proof.RefRow

/-! The reference's loop: what its arrays hold before each trip, in real numbers. -/

@[expose] public section
noncomputable section
open Idealize.ShloMosaic Idealize.ShloMosaic.TcCoe Idealize.SL.Sem
namespace Cert.ReferenceIdeal.Scan
open Cert.ReferenceIdeal Cert.ReferenceIdeal.Gen Cert.ReferenceIdeal.Value Oscillator

/-- One real number per lane. -/
def Lanes (v : FVec Ideal S256 .f32) (r : Fin 256 → ℝ) : Prop := ∀ p, v (ix1 p) = ((r p : ℝ) : EReal)

/-- One real number per lane and time. -/
def Grid (v : FVec Ideal S8192x256 .f32) (r : Fin 256 → ℕ → ℝ) : Prop :=
  ∀ (n : Fin 8192) (p : Fin 256), v (ix2 n p) = ((r p n.val : ℝ) : EReal)

/-- The first component after one trip. -/
def grow (x1 m x2 f : FVec Ideal S256 .f32) : FVec Ideal S256 .f32 := addf (addf x1 (mulf m x2)) f

/-- The second component after one trip. -/
def turn (s x1 m x2 f : FVec Ideal S256 .f32) : FVec Ideal S256 .f32 := addf (addf (mulf s x1) (mulf m x2)) f

/-- The first component after one trip, in real numbers. -/
theorem grow_lanes {x1 m x2 f : FVec Ideal S256 .f32} {a b c d : Fin 256 → ℝ} (h1 : Lanes x1 a) (hm : Lanes m b)
    (h2 : Lanes x2 c) (hf : Lanes f d) : Lanes (grow x1 m x2 f) fun p => a p + b p * c p + d p := fun p => by
  have e : grow x1 m x2 f (ix1 p) = x1 (ix1 p) + m (ix1 p) * x2 (ix1 p) + f (ix1 p) := by pointwise [grow]
  rw [e, h1 p, hm p, h2 p, hf p]; norm_cast

/-- The second component after one trip, in real numbers. -/
theorem turn_lanes {s x1 m x2 f : FVec Ideal S256 .f32} {g a b c d : Fin 256 → ℝ} (hs : Lanes s g) (h1 : Lanes x1 a)
    (hm : Lanes m b) (h2 : Lanes x2 c) (hf : Lanes f d) :
    Lanes (turn s x1 m x2 f) fun p => g p * a p + b p * c p + d p := fun p => by
  have e : turn s x1 m x2 f (ix1 p) = s (ix1 p) * x1 (ix1 p) + m (ix1 p) * x2 (ix1 p) + f (ix1 p) := by pointwise [turn]
  rw [e, hs p, h1 p, hm p, h2 p, hf p]; norm_cast

/-- What one half (real or imaginary) holds before trip `k`: the drive, both components, and the rows written. -/
structure Half (s m12 m22 : Fin 256 → ℝ) (F : Fin 256 → ℕ → ℝ) (k : ℕ) (u : FVec Ideal S8192x256 .f32)
    (x1 x2 : FVec Ideal S256 .f32) (y : FVec Ideal S8192x256 .f32) : Prop where
  drive : Grid u F
  first : Lanes x1 fun p => (state (s p) (m12 p) (m22 p) (F p) k).1
  second : Lanes x2 fun p => (state (s p) (m12 p) (m22 p) (F p) k).2
  rows : ∀ (n : Fin 8192) (p : Fin 256), n.val < k →
    y (ix2 n p) = ((resp (s p) (m12 p) (m22 p) (F p) (n.val + 2) : ℝ) : EReal)

/-- The row of the drive that trip `k` reads. -/
def rowAt (u : FVec Ideal S8192x256 .f32) (i : IVec S_ 32) : FVec Ideal S256 .f32 :=
  shapeCast S256 (Host.dynamicSlice S1x256 u (place i) sliceFits_S8192x256_S1x256) shapeCasts_S1x256_S256

/-- The rows after trip `k` has written its own. -/
def putAt (y : FVec Ideal S8192x256 .f32) (v : FVec Ideal S256 .f32) (i : IVec S_ 32) : FVec Ideal S8192x256 .f32 :=
  Host.dynamicUpdateSlice y (broadcastInDim S1x256 ![1] bcast_S256_S1x256_1 v) (place i) updateFits_S8192x256_S1x256

/-- One trip takes a half from `k` to `k + 1`. -/
theorem Half.next {s m12 m22 : Fin 256 → ℝ} {F : Fin 256 → ℕ → ℝ} {k : ℕ} {u y : FVec Ideal S8192x256 .f32}
    {x1 x2 vs v22 v12 : FVec Ideal S256 .f32} (h : Half s m12 m22 F k u x1 x2 y) (hk : k < 8192) (hs : Lanes vs s)
    (h22 : Lanes v22 m22) (h12 : Lanes v12 m12) :
    Half s m12 m22 F (k + 1) u (grow x1 v12 x2 (rowAt u (counter k))) (turn vs x1 v22 x2 (rowAt u (counter k)))
      (putAt y (turn vs x1 v22 x2 (rowAt u (counter k))) (counter k)) := by
  have hf : Lanes (rowAt u (counter k)) fun p => F p k := fun p => by
    refine (row_read u hk _ _ p).trans ?_
    exact h.drive ⟨k, hk⟩ p
  have h2 := turn_lanes hs h.first h22 h.second hf
  refine ⟨h.drive, grow_lanes h.first h12 h.second hf, h2, fun n p hn => ?_⟩
  refine (row_write y _ hk _ _ n p).trans ?_
  by_cases e : n.val = k
  · rw [if_pos e, h2 p, e]; rfl
  · rw [if_neg e, h.rows n p (by omega)]

/-- What the arrays hold before trip `k`. -/
structure At (s m12 m22 : Fin 256 → ℝ) (Fr Fi : Fin 256 → ℕ → ℝ) (k : ℕ) (V : Valuation τ sig (Elt Ideal)) : Prop where
  gain : Lanes (V (Proc.devRef .tc main_v26_2)) s
  low : Lanes (V (Proc.devRef .tc main_v26_3)) m22
  high : Lanes (V (Proc.devRef .tc main_v26_4)) m12
  count : V (Proc.devRef .tc main_v26_5) = counter k
  re : Half s m12 m22 Fr k (V (Proc.devRef .tc main_v26_0)) (V (Proc.devRef .tc main_v26_6))
    (V (Proc.devRef .tc main_v26_8)) (V (Proc.devRef .tc main_v26_10))
  im : Half s m12 m22 Fi k (V (Proc.devRef .tc main_v26_1)) (V (Proc.devRef .tc main_v26_7))
    (V (Proc.devRef .tc main_v26_9)) (V (Proc.devRef .tc main_v26_11))

/-- One trip of the loop. -/
theorem At.next {s m12 m22 : Fin 256 → ℝ} {Fr Fi : Fin 256 → ℕ → ℝ} {k : ℕ} {V : Valuation τ sig (Elt Ideal)}
    (h : At s m12 m22 Fr Fi k V) (hk : k < 8192) : At s m12 m22 Fr Fi (k + 1) (STEP V) := by
  have e36 : res_main_while0b_v36 V = rowAt (V (Proc.devRef .tc main_v26_0)) (counter k) := by
    rw [← h.count]; rfl
  have e37 : res_main_while0b_v37 V = rowAt (V (Proc.devRef .tc main_v26_1)) (counter k) := by
    rw [← h.count]; rfl
  have e41 : res_main_while0b_v41 V = turn (V (Proc.devRef .tc main_v26_2)) (V (Proc.devRef .tc main_v26_6))
      (V (Proc.devRef .tc main_v26_3)) (V (Proc.devRef .tc main_v26_8)) (rowAt (V (Proc.devRef .tc main_v26_0)) (counter k)) := by
    rw [← e36]; rfl
  have e45 : res_main_while0b_v45 V = turn (V (Proc.devRef .tc main_v26_2)) (V (Proc.devRef .tc main_v26_7))
      (V (Proc.devRef .tc main_v26_3)) (V (Proc.devRef .tc main_v26_9)) (rowAt (V (Proc.devRef .tc main_v26_1)) (counter k)) := by
    rw [← e37]; rfl
  have e6 : step_main_v26_6 V = grow (V (Proc.devRef .tc main_v26_6)) (V (Proc.devRef .tc main_v26_4))
      (V (Proc.devRef .tc main_v26_8)) (rowAt (V (Proc.devRef .tc main_v26_0)) (counter k)) := by
    rw [← e36]; rfl
  have e7 : step_main_v26_7 V = grow (V (Proc.devRef .tc main_v26_7)) (V (Proc.devRef .tc main_v26_4))
      (V (Proc.devRef .tc main_v26_9)) (rowAt (V (Proc.devRef .tc main_v26_1)) (counter k)) := by
    rw [← e37]; rfl
  have e10 : step_main_v26_10 V = putAt (V (Proc.devRef .tc main_v26_10)) (res_main_while0b_v41 V) (counter k) := by
    rw [← h.count]; rfl
  have e11 : step_main_v26_11 V = putAt (V (Proc.devRef .tc main_v26_11)) (res_main_while0b_v45 V) (counter k) := by
    rw [← h.count]; rfl
  have e5 : step_main_v26_5 V = counter (k + 1) := by
    have : step_main_v26_5 V = addi (V (Proc.devRef .tc main_v26_5)) (constantI S_ 32 1#32) := rfl
    rw [this, h.count]
    funext j
    exact (Scf.iv_succ 0#32 1#32 k).symm
  refine ⟨?_, ?_, ?_, ?_, ?_, ?_⟩
  · rw [STEP_main_v26_2]; exact h.gain
  · rw [STEP_main_v26_3]; exact h.low
  · rw [STEP_main_v26_4]; exact h.high
  · rw [STEP_main_v26_5]; exact e5
  · rw [STEP_main_v26_0, STEP_main_v26_6, STEP_main_v26_8, STEP_main_v26_10, e6, e10, show step_main_v26_8 V = res_main_while0b_v41 V from rfl, e41]
    exact h.re.next hk h.gain h.low h.high
  · rw [STEP_main_v26_1, STEP_main_v26_7, STEP_main_v26_9, STEP_main_v26_11, e7, e11, show step_main_v26_9 V = res_main_while0b_v45 V from rfl, e45]
    exact h.im.next hk h.gain h.low h.high

/-- Any number of trips. -/
theorem At.trips {s m12 m22 : Fin 256 → ℝ} {Fr Fi : Fin 256 → ℕ → ℝ} {V : Valuation τ sig (Elt Ideal)}
    (h : At s m12 m22 Fr Fi 0 V) : ∀ k ≤ 8192, At s m12 m22 Fr Fi k (STEP^[k] V)
  | 0, _ => h
  | k + 1, hk => by
    rw [Function.iterate_succ_apply']
    exact (At.trips h k (by omega)).next (by omega)

end Cert.ReferenceIdeal.Scan
-- ==== Proof.RefEntry.lean ====
module
public import proofs.«01_k».proof.Proof.RefLoop
public import proofs.«01_k».proof.Proof.Bounds

/-! What the reference's arrays hold when its loop begins. -/

@[expose] public section
noncomputable section
open Idealize.ShloMosaic Idealize.ShloMosaic.TcCoe Idealize.SL.Sem
namespace Cert.ReferenceIdeal.Scan
open Cert.ReferenceIdeal Cert.ReferenceIdeal.Gen Cert.ReferenceIdeal.Value Oscillator
open Idealize.ShloMosaic.Tactic Idealize.ShloMosaic.StableHlo

variable (m : (ℓ : Loc nD τ sig) → Buf (Elt Ideal) ℓ) (c : Dev nD)

/-- The number one in every lane. -/
def ones : FVec Ideal S256 .f32 := broadcastInDim S256 ![] bcast_S_S256 (constant S_ .f32 0x3F800000#32)

/-- The number zero in every lane. -/
def zeros : FVec Ideal S256 .f32 := broadcastInDim S256 ![] bcast_S_S256 (constant S_ .f32 0x00000000#32)

/-- The number zero everywhere. -/
def blank : FVec Ideal S8192x256 .f32 := broadcastInDim S8192x256 ![] bcast_S_S8192x256 (constant S_ .f32 0x00000000#32)

/-- The gain. -/
def gainOf (steps : FVec Ideal S256 .f32) : FVec Ideal S256 .f32 := Host.divf ones (addf ones (Host.exp (Host.negf steps)))

/-- The frequency. -/
def freqOf (diag : FVec Ideal S256 .f32) : FVec Ideal S256 .f32 := maximumf diag zeros

/-- The drive. -/
def driveOf (x : FVec Ideal S8192x128 .f32) (b : FVec Ideal S256x128 .f32) (s : FVec Ideal S256 .f32) : FVec Ideal S8192x256 .f32 :=
  mulf (Host.dotGeneral dot_S8192x128_S128x256_S8192x256_1_0_0_1_n_n none x (transpose S128x256 [1, 0] b transposes_S256x128_S128x256_1_0))
    (broadcastInDim S8192x256 ![0, 1] bcast_S1x256_S8192x256_0_1 (broadcastInDim S1x256 ![1] bcast_S256_S1x256_1 s))

/-- The gain at entry. -/
theorem entry2 : entryContents preI m c (Proc.devRef .tc main_v26_2) = gainOf (m ((c : Thread nD τ).loc main_arg7)) := by
  simp only [entryContents, afterL_cons, afterL_nil]
  after_reads_simp
  rfl

/-- The lower right weight at entry. -/
theorem entry3 : entryContents preI m c (Proc.devRef .tc main_v26_3) =
    subf ones (mulf (mulf (gainOf (m ((c : Thread nD τ).loc main_arg7))) (gainOf (m ((c : Thread nD τ).loc main_arg7)))) (freqOf (m ((c : Thread nD τ).loc main_arg1)))) := by
  simp only [entryContents, afterL_cons, afterL_nil]
  after_reads_simp
  rfl

/-- The upper right weight at entry. -/
theorem entry4 : entryContents preI m c (Proc.devRef .tc main_v26_4) =
    mulf (Host.negf (gainOf (m ((c : Thread nD τ).loc main_arg7)))) (freqOf (m ((c : Thread nD τ).loc main_arg1))) := by
  simp only [entryContents, afterL_cons, afterL_nil]
  after_reads_simp
  rfl

/-- The real drive at entry. -/
theorem entry0 : entryContents preI m c (Proc.devRef .tc main_v26_0) =
    driveOf (m ((c : Thread nD τ).loc main_arg0)) (m ((c : Thread nD τ).loc main_arg2)) (gainOf (m ((c : Thread nD τ).loc main_arg7))) := by
  simp only [entryContents, afterL_cons, afterL_nil]
  after_reads_simp
  rfl

/-- The imaginary drive at entry. -/
theorem entry1 : entryContents preI m c (Proc.devRef .tc main_v26_1) =
    driveOf (m ((c : Thread nD τ).loc main_arg0)) (m ((c : Thread nD τ).loc main_arg3)) (gainOf (m ((c : Thread nD τ).loc main_arg7))) := by
  simp only [entryContents, afterL_cons, afterL_nil]
  after_reads_simp
  rfl

/-- The real first component is zero at entry. -/
theorem entry6 : entryContents preI m c (Proc.devRef .tc main_v26_6) = zeros := by
  simp only [entryContents, afterL_cons, afterL_nil]
  after_reads_simp
  rfl

/-- The imaginary first component is zero at entry. -/
theorem entry7 : entryContents preI m c (Proc.devRef .tc main_v26_7) = zeros := by
  simp only [entryContents, afterL_cons, afterL_nil]
  after_reads_simp
  rfl

/-- The real second component is zero at entry. -/
theorem entry8 : entryContents preI m c (Proc.devRef .tc main_v26_8) = zeros := by
  simp only [entryContents, afterL_cons, afterL_nil]
  after_reads_simp
  rfl

/-- The imaginary second component is zero at entry. -/
theorem entry9 : entryContents preI m c (Proc.devRef .tc main_v26_9) = zeros := by
  simp only [entryContents, afterL_cons, afterL_nil]
  after_reads_simp
  rfl

end Cert.ReferenceIdeal.Scan
-- ==== Proof.RefStart.lean ====
module
public import proofs.«01_k».proof.Proof.RefEntry

/-! The loop's first state in real numbers, and the reference's result after its last trip. -/

@[expose] public section
noncomputable section
open Idealize.ShloMosaic Idealize.ShloMosaic.TcCoe Idealize.SL.Sem
namespace Cert.ReferenceIdeal.Scan
open Cert.ReferenceIdeal Cert.ReferenceIdeal.Gen Cert.ReferenceIdeal.Value Oscillator
open Idealize.ShloMosaic.Tactic Idealize.ShloMosaic.StableHlo

/-- Zeros are the real number zero. -/
theorem zeros_lanes : Lanes zeros fun _ => 0 := fun p => by
  pointwise [zeros]; rfl

section
variable {x : FVec Ideal S8192x128 .f32} {diag : FVec Ideal S256 .f32} {bre bim : FVec Ideal S256x128 .f32}
  {steps : FVec Ideal S256 .f32} {X : Fin 8192 → Fin 128 → ℝ} {Br Bi : Fin 256 → Fin 128 → ℝ} {s α : Fin 256 → ℝ}

/-- The gain is the real gain. -/
theorem gain_lanes (h : Given x diag bre bim steps X Br Bi s α) : Lanes (gainOf steps) s := fun p => by
  rw [← h.gain p]
  pointwise [gainOf, ones]
  rfl

/-- The frequency is the real frequency. -/
theorem freq_lanes (h : Given x diag bre bim steps X Br Bi s α) : Lanes (freqOf diag) α := fun p => by
  rw [← h.freq p]
  pointwise [freqOf, zeros]

/-- The drive is the real drive. -/
theorem drive_grid {b : FVec Ideal S256x128 .f32} {B : Fin 256 → Fin 128 → ℝ} {g : FVec Ideal S256 .f32}
    (hx : ∀ n h, x (ix2 n h) = ((X n h : ℝ) : EReal)) (hb : ∀ p h, b (ix2 p h) = ((B p h : ℝ) : EReal)) (hg : Lanes g s) :
    Grid (driveOf x b g) (feed X B s) := fun n p => by
  have e : driveOf x b g (ix2 n p) = (∑ k : Fin 128, x (ix2 n k) * b (ix2 p k)) * g (ix1 p) := by pointwise [driveOf]
  rw [e, hg p]
  simp only [hx, hb, feed, n.isLt, dif_pos]
  norm_cast

end

end Cert.ReferenceIdeal.Scan
-- ==== Proof.RefAnswer.lean ====
module
public import proofs.«01_k».proof.Proof.RefStart
public import proofs.«01_k».proof.Proof.Output

/-! The reference's result in terms of the response of every lane. -/

@[expose] public section
noncomputable section
open Idealize.ShloMosaic Idealize.ShloMosaic.TcCoe Idealize.SL.Sem
namespace Cert.ReferenceIdeal.Scan
open Cert.ReferenceIdeal Cert.ReferenceIdeal.Gen Cert.ReferenceIdeal.Value Oscillator
open Idealize.ShloMosaic.Tactic Idealize.ShloMosaic.StableHlo

/-- The response of every lane to a drive. -/
def answer (s α : Fin 256 → ℝ) (F : Fin 256 → ℕ → ℝ) (p : Fin 256) (n : ℕ) : ℝ :=
  resp (s p) (upper (s p) (α p)) (lower (s p) (α p)) (F p) n

/-- The state at time zero. -/
theorem half_start {s m12 m22 : Fin 256 → ℝ} {F : Fin 256 → ℕ → ℝ} {u : FVec Ideal S8192x256 .f32} {x1 x2 : FVec Ideal S256 .f32}
    {y : FVec Ideal S8192x256 .f32} (hu : Grid u F) (h1 : x1 = zeros) (h2 : x2 = zeros) : Half s m12 m22 F 0 u x1 x2 y :=
  ⟨hu, fun p => by rw [h1]; exact zeros_lanes p, fun p => by rw [h2]; exact zeros_lanes p, fun _ _ h => absurd h (Nat.not_lt_zero _)⟩

variable {m : (ℓ : Loc nD τ sig) → Buf (Elt Ideal) ℓ} {c : Dev nD}
  {X : Fin 8192 → Fin 128 → ℝ} {Br Bi : Fin 256 → Fin 128 → ℝ} {s α : Fin 256 → ℝ}

/-- What the arrays hold when the loop begins. -/
theorem start (h : Given (m ((c : Thread nD τ).loc main_arg0)) (m ((c : Thread nD τ).loc main_arg1)) (m ((c : Thread nD τ).loc main_arg2))
      (m ((c : Thread nD τ).loc main_arg3)) (m ((c : Thread nD τ).loc main_arg7)) X Br Bi s α) :
    At s (fun p => upper (s p) (α p)) (fun p => lower (s p) (α p)) (feed X Br s) (feed X Bi s) 0 (entryContents preI m c) := by
  have hg := gain_lanes h
  have hf := freq_lanes h
  refine ⟨?_, ?_, ?_, ?_, ?_, ?_⟩
  · rw [entry2]; exact hg
  · rw [entry3]
    intro p
    have e : subf ones (mulf (mulf (gainOf (m ((c : Thread nD τ).loc main_arg7))) (gainOf (m ((c : Thread nD τ).loc main_arg7)))) (freqOf (m ((c : Thread nD τ).loc main_arg1)))) (ix1 p) =
        1 - gainOf (m ((c : Thread nD τ).loc main_arg7)) (ix1 p) * gainOf (m ((c : Thread nD τ).loc main_arg7)) (ix1 p) * freqOf (m ((c : Thread nD τ).loc main_arg1)) (ix1 p) := by
      pointwise [ones]
    rw [e, hg p, hf p]; unfold lower; norm_cast
  · rw [entry4]
    intro p
    have e : mulf (Host.negf (gainOf (m ((c : Thread nD τ).loc main_arg7)))) (freqOf (m ((c : Thread nD τ).loc main_arg1))) (ix1 p) =
        -gainOf (m ((c : Thread nD τ).loc main_arg7)) (ix1 p) * freqOf (m ((c : Thread nD τ).loc main_arg1)) (ix1 p) := by
      pointwise []
    rw [e, hg p, hf p]; unfold upper; norm_cast
  · rw [ctr_entry]; funext _; exact (Scf.iv_zero _ _).symm
  · exact half_start (by rw [entry0]; exact drive_grid h.input h.weight_re hg) (entry6 m c) (entry8 m c)
  · exact half_start (by rw [entry1]; exact drive_grid h.input h.weight_im hg) (entry7 m c) (entry9 m c)

/-- The result's term over arrays that hold real sequences. -/
theorem term_apply (u v : FVec Ideal S8192x256 .f32) (cre cim : FVec Ideal S128x256 .f32) (x : FVec Ideal S8192x128 .f32)
    (skip : FVec Ideal S128 .f32) (n : Fin 8192) (k : Fin 128) :
    addf (subf (Host.dotGeneral (F := Ideal) dot_S8192x256_S256x128_S8192x128_1_0_0_1_n_n none u (transpose S256x128 [1, 0] cre transposes_S128x256_S256x128_1_0)) (Host.dotGeneral dot_S8192x256_S256x128_S8192x128_1_0_0_1_n_n none v (transpose S256x128 [1, 0] cim transposes_S128x256_S256x128_1_0))) (mulf x (broadcastInDim S8192x128 ![0, 1] bcast_S1x128_S8192x128_0_1 (broadcastInDim S1x128 ![1] bcast_S128_S1x128_1 skip))) (ix2 n k) =
      (∑ p : Fin 256, u (ix2 n p) * cre (ix2 k p)) - (∑ p : Fin 256, v (ix2 n p) * cim (ix2 k p)) + x (ix2 n k) * skip (ix1 k) := by
  pointwise []

/-- The reference's result. -/
theorem out_eq (h : Given (m ((c : Thread nD τ).loc main_arg0)) (m ((c : Thread nD τ).loc main_arg1)) (m ((c : Thread nD τ).loc main_arg2))
      (m ((c : Thread nD τ).loc main_arg3)) (m ((c : Thread nD τ).loc main_arg7)) X Br Bi s α) :
    out_main_v35 (STEP^[8192] (entryContents preI m c)) =
      Cert.KernelIdeal.Scan.result ⟨answer s α (feed X Br s), answer s α (feed X Bi s)⟩ (m ((c : Thread nD τ).loc main_arg0))
        (m ((c : Thread nD τ).loc main_arg4)) (m ((c : Thread nD τ).loc main_arg5)) (m ((c : Thread nD τ).loc main_arg6)) := by
  have ha := (start h).trips 8192 le_rfl
  have e0 := iter_main_arg0 m c 8192
  have e4 := iter_main_arg4 m c 8192
  have e5 := iter_main_arg5 m c 8192
  have e6 := iter_main_arg6 m c 8192
  generalize STEP^[8192] (entryContents preI m c) = V at ha e0 e4 e5 e6
  unfold out_main_v35
  rw [e0, e4, e5, e6]
  funext j
  obtain ⟨n, k, rfl⟩ : ∃ (n : Fin 8192) (k : Fin 128), j = ix2 n k := ⟨j 0, j 1, eq_ix2 j⟩
  refine (term_apply _ _ _ _ _ _ n k).trans ?_
  simp only [ha.re.rows n _ n.isLt, ha.im.rows n _ n.isLt]
  rfl

end Cert.ReferenceIdeal.Scan
-- ==== Proof.KernelAnswer.lean ====
module
public import proofs.«01_k».proof.Proof.Output
public import proofs.«01_k».proof.Proof.Bounds
public import proofs.«01_k».proof.Proof.RefAnswer

/-! The kernel's result in terms of the response of every lane. -/

@[expose] public section
noncomputable section
open Idealize.ShloMosaic Idealize.ShloMosaic.TcCoe Idealize.SL.Sem
open Idealize.ShloMosaic.Pipeline (Dat)
namespace Cert.KernelIdeal.Scan
open Cert.KernelIdeal Cert.KernelIdeal.Gen Oscillator Cert.ReferenceIdeal.Scan

variable {m : (ℓ : Loc nD τ sig) → Buf (Elt Ideal) ℓ} {d : Dev nD}
  {X : Fin 8192 → Fin 128 → ℝ} {Br Bi : Fin 256 → Fin 128 → ℝ} {s α : Fin 256 → ℝ}

/-- The square of the gain times the frequency, as the kernel writes it. -/
theorem square_row (st di : Lane) (p : Fin 256) : k0_pay95 (F := Ideal) st di (ix2 (0 : Fin 1) p) =
    Ideal.logistic (st (ix2 (0 : Fin 1) p)) * Ideal.logistic (st (ix2 (0 : Fin 1) p)) * max (di (ix2 (0 : Fin 1) p)) 0 := by
  pointwise [k0_pay95, k0_pay94]

/-- The cosine, as the kernel writes it. -/
theorem cosine_row (st di : Lane) (p : Fin 256) : k0_pay96 (F := Ideal) st di (ix2 (0 : Fin 1) p) =
    1 - Ideal.ofBits .f32 0x3F000000#32 * k0_pay95 (F := Ideal) st di (ix2 (0 : Fin 1) p) := by
  pointwise [k0_pay96]

/-- The sine, as the kernel writes it. -/
theorem sine_row (st di : Lane) (p : Fin 256) : k0_pay97 (F := Ideal) st di (ix2 (0 : Fin 1) p) =
    Ideal.sqrt (max (k0_pay95 (F := Ideal) st di (ix2 (0 : Fin 1) p) * (1 - Ideal.ofBits .f32 0x3E800000#32 * k0_pay95 (F := Ideal) st di (ix2 (0 : Fin 1) p))) (Ideal.ofBits .f32 0x179ABE15#32)) := by
  pointwise [k0_pay97]

/-- The kernel's rotation is the oscillator's. -/
theorem turns (h : Given (m ((d : Thread nD τ).loc main_arg0)) (m ((d : Thread nD τ).loc main_arg1)) (m ((d : Thread nD τ).loc main_arg2))
      (m ((d : Thread nD τ).loc main_arg3)) (m ((d : Thread nD τ).loc main_arg7)) X Br Bi s α) :
    Turns (argOperands m d) s (fun p => cosine (s p) (α p)) (fun p => sine (s p) (α p)) := by
  have hq : ∀ p : Fin 256, k0_pay95 (F := Ideal) (argOperands m d).steps (argOperands m d).diag (ix2 (0 : Fin 1) p) = ((s p * s p * α p : ℝ) : EReal) := fun p => by
    rw [square_row]
    have e1 : Ideal.logistic ((argOperands m d).steps (ix2 (0 : Fin 1) p)) = ((s p : ℝ) : EReal) := h.gain p
    have e2 : max ((argOperands m d).diag (ix2 (0 : Fin 1) p)) 0 = ((α p : ℝ) : EReal) := h.freq p
    rw [e1, e2]; norm_cast
  refine ⟨fun p => ?_, fun p => ?_, fun p => ?_, fun p => on_circle (h.bound p), fun p => sine_ne (h.bound p)⟩
  · refine Eq.trans ?_ (h.gain p)
    unfold Operands.s argOperands
    pointwise [k0_pay94]
    rfl
  · refine (cosine_row _ _ p).trans ?_
    rw [hq, word_half, cosine]; norm_cast
  · refine (sine_row _ _ p).trans ?_
    rw [hq, word_quarter, word_least]
    have e : ((s p * s p * α p : ℝ) : EReal) * (1 - ((1 / 4 : ℝ) : EReal) * ((s p * s p * α p : ℝ) : EReal)) =
        ((s p * s p * α p * (1 - 1 / 4 * (s p * s p * α p)) : ℝ) : EReal) := by norm_cast
    rw [e, max_eq_left (EReal.coe_le_coe_iff.2 (h.bound p)), Ideal.sqrt_coe, if_neg (not_lt.2 (least_pos.le.trans (h.bound p))), sine]

/-- The sequences of the response obey the model. -/
theorem model (h : Given (m ((d : Thread nD τ).loc main_arg0)) (m ((d : Thread nD τ).loc main_arg1)) (m ((d : Thread nD τ).loc main_arg2))
      (m ((d : Thread nD τ).loc main_arg3)) (m ((d : Thread nD τ).loc main_arg7)) X Br Bi s α) :
    Model (argOperands m d) s (fun p => cosine (s p) (α p)) (fun p => sine (s p) (α p))
      ⟨answer s α (feed X Br s), answer s α (feed X Bi s)⟩ ⟨feed X Br s, feed X Bi s⟩ := by
  have ht : ∀ p, 1 + lower (s p) (α p) = 2 * cosine (s p) (α p) := fun p => by unfold lower cosine; ring
  have hd : ∀ p, lower (s p) (α p) - s p * upper (s p) (α p) = 1 := fun p => by unfold lower upper; ring
  exact ⟨turns h, fun p n => resp_step (ht p) (hd p) _ n, fun p n => resp_step (ht p) (hd p) _ n,
    fun _ => rfl, fun _ => rfl, fun _ => rfl, fun _ => rfl⟩

/-- A row of the real drive, as the kernel computes it. -/
theorem drive_re_apply (q : Operands) (x : FVec Ideal S1024x128 .f32) (n : Fin 1024) (p : Fin 256) :
    q.fr x (ix2 n p) = ∑ k : Fin 128, x (ix2 n k) * (q.bre (ix2 p k) * q.s (ix2 (0 : Fin 1) p)) := by
  unfold Operands.fr Operands.br
  pointwise [k0_pay105, k0_pay3]

/-- A row of the imaginary drive, as the kernel computes it. -/
theorem drive_im_apply (q : Operands) (x : FVec Ideal S1024x128 .f32) (n : Fin 1024) (p : Fin 256) :
    q.fi x (ix2 n p) = ∑ k : Fin 128, x (ix2 n k) * (q.bim (ix2 p k) * q.s (ix2 (0 : Fin 1) p)) := by
  unfold Operands.fi Operands.bi
  pointwise [k0_pay106, k0_pay4]

/-- A weighted sum of real numbers with the gain inside is the one with the gain outside. -/
theorem sum_real (u v : Fin 128 → ℝ) (g : ℝ) :
    ∑ k : Fin 128, ((u k : ℝ) : EReal) * (((v k : ℝ) : EReal) * ((g : ℝ) : EReal)) = (((∑ k, u k * v k) * g : ℝ) : EReal) := by
  rw [Finset.sum_mul]
  simp only [mul_assoc]
  norm_cast

/-- Every block of input rows feeds the drive. -/
theorem feeds (h : Given (m ((d : Thread nD τ).loc main_arg0)) (m ((d : Thread nD τ).loc main_arg1)) (m ((d : Thread nD τ).loc main_arg2))
      (m ((d : Thread nD τ).loc main_arg3)) (m ((d : Thread nD τ).loc main_arg7)) X Br Bi s α) (t : Fin cfg0.N) :
    Feeds (argOperands m d) ⟨feed X Br s, feed X Bi s⟩ (1024 * t.val) (iblk m d 0 t) := by
  have ht : t.val < 8 := t.isLt
  have hs := (turns h).rs
  have hx : ∀ (n : Fin 1024) (k : Fin 128), iblk m d 0 t (ix2 n k) = ((X ⟨1024 * t.val + n.val, by omega⟩ k : ℝ) : EReal) := fun n k =>
    (rows_eq m d t n k (by omega)).trans (h.input _ _)
  constructor
  · intro n p _
    rw [drive_re_apply, hs p]
    have hw : ∀ k, (argOperands m d).bre (ix2 p k) = ((Br p k : ℝ) : EReal) := h.weight_re p
    simp only [hx, hw]
    rw [sum_real, feed, dif_pos]
  · intro n p _
    rw [drive_im_apply, hs p]
    have hw : ∀ k, (argOperands m d).bim (ix2 p k) = ((Bi p k : ℝ) : EReal) := h.weight_im p
    simp only [hx, hw]
    rw [sum_real, feed, dif_pos]

/-- The kernel's result. -/
theorem out_eq (h : Given (m ((d : Thread nD τ).loc main_arg0)) (m ((d : Thread nD τ).loc main_arg1)) (m ((d : Thread nD τ).loc main_arg2))
      (m ((d : Thread nD τ).loc main_arg3)) (m ((d : Thread nD τ).loc main_arg7)) X Br Bi s α) :
    (dats m 0 d).arrAt 8 cfg0.N =
      result ⟨answer s α (feed X Br s), answer s α (feed X Bi s)⟩ (m ((d : Thread nD τ).loc main_arg0))
        (m ((d : Thread nD τ).loc main_arg4)) (m ((d : Thread nD τ).loc main_arg5)) (m ((d : Thread nD τ).loc main_arg6)) :=
  final m d (model h) (feeds h)

end Cert.KernelIdeal.Scan
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_oscillates
public import proofs.«01_k».proof.Proof.Gen.ReferenceIdeal.Run
public import Idealize.ShloMosaic.Adequacy
public import Idealize.ShloMosaic.Init
public import Idealize.ShloMosaic.Lib.Quiescent
public import proofs.«01_k».proof.Proof.KernelAnswer

@[expose] public section

noncomputable section

namespace Cert.Proof

open Idealize.ShloMosaic Idealize.SL.Sem

/-- The reference leaves its arguments alone and no counter raised. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem quiescent_ReferenceIdeal_pre_oscillates : Cert.quiescent_ReferenceIdeal_pre_oscillates := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference leave the same result. -/
theorem algebraic_KernelIdeal_ReferenceIdeal_pre_oscillates : Cert.algebraic_KernelIdeal_ReferenceIdeal_pre_oscillates := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨X, Br, Bi, s, α, hg⟩ := Cert.Pre_oscillates.given _ _ _ _ _ _ _ _ (hpre c)
  obtain ⟨e0, e1, e2, e3, e4, e5, e6, e7⟩ := hagree c
  have hg' := hg
  rw [← e0, ← e1, ← e2, ← e3, ← e7] at hg'
  rw [(h c).1, Cert.ReferenceIdeal.Scan.out_eq hg', Cert.KernelIdeal.Scan.out_eq hg, e0, e4, e5, e6]

/-- Every claim. -/
theorem claim : Cert.Claim := ⟨Cert.Kernel.Gen.facts, Cert.KernelIdeal.Gen.facts, Cert.ReferenceIdeal.Gen.facts, Cert.Pre_oscillates.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre_oscillates, (trivial : preserves_Kernel_KernelIdeal), algebraic_KernelIdeal_ReferenceIdeal_pre_oscillates⟩

end Cert.Proof

end
